-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantisedXIdeal (m : (ℓ : Loc Cert.QuantisedXIdeal.nD Cert.QuantisedXIdeal.τ Cert.QuantisedXIdeal.sig) → Buf (Elt Ideal) ℓ) : Prop :=
  True

def Pre_QuantW (m : (ℓ : Loc Cert.QuantW.nD Cert.QuantW.τ Cert.QuantW.sig) → Buf (Elt Bits) ℓ) : Prop :=
  True

def Pre_QuantWIdeal (m : (ℓ : Loc Cert.QuantWIdeal.nD Cert.QuantWIdeal.τ Cert.QuantWIdeal.sig) → Buf (Elt Ideal) ℓ) : Prop :=
  True

def Pre_QuantisedWIdeal (m : (ℓ : Loc Cert.QuantisedWIdeal.nD Cert.QuantisedWIdeal.τ Cert.QuantisedWIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_QuantisedXIdeal [hQuantisedXIdeal : Cert.QuantisedXIdeal.Facts] : Prop :=
  ∀ (m : (ℓ : Loc Cert.QuantisedXIdeal.nD Cert.QuantisedXIdeal.τ Cert.QuantisedXIdeal.sig) → Buf (Elt Ideal) ℓ) (g : Dev Cert.QuantisedXIdeal.nD → PrngReg), Pre_QuantisedXIdeal m →
    θ_run (Cert.QuantisedXIdeal.defs (F := Ideal)) (onTc (τ := Cert.QuantisedXIdeal.τ) (Cert.QuantisedXIdeal.main (F := Ideal))) ⟨m, fun _ => 0, g⟩ (fun r => (∀ c : Dev Cert.QuantisedXIdeal.nD,
      r.2.mem ((c.tc : Thread Cert.QuantisedXIdeal.nD Cert.QuantisedXIdeal.τ).loc Cert.QuantisedXIdeal.main_arg0) = m ((c.tc : Thread Cert.QuantisedXIdeal.nD Cert.QuantisedXIdeal.τ).loc Cert.QuantisedXIdeal.main_arg0))
      ∧ r.2.sem = fun _ => 0)

def quiescent_QuantW [hQuantW : Cert.QuantW.Facts] : Prop :=
  ∀ (m : (ℓ : Loc Cert.QuantW.nD Cert.QuantW.τ Cert.QuantW.sig) → Buf (Elt Bits) ℓ) (g : Dev Cert.QuantW.nD → PrngReg), Pre_QuantW m →
    θ_run (Cert.QuantW.defs (F := Bits)) (onTc (τ := Cert.QuantW.τ) (Cert.QuantW.main (F := Bits))) ⟨m, fun _ => 0, g⟩ (fun r => (∀ c : Dev Cert.QuantW.nD,
      r.2.mem ((c.tc : Thread Cert.QuantW.nD Cert.QuantW.τ).loc Cert.QuantW.main_arg0) = m ((c.tc : Thread Cert.QuantW.nD Cert.QuantW.τ).loc Cert.QuantW.main_arg0))
      ∧ r.2.sem = fun _ => 0)

def quiescent_QuantWIdeal [hQuantWIdeal : Cert.QuantWIdeal.Facts] : Prop :=
  ∀ (m : (ℓ : Loc Cert.QuantWIdeal.nD Cert.QuantWIdeal.τ Cert.QuantWIdeal.sig) → Buf (Elt Ideal) ℓ) (g : Dev Cert.QuantWIdeal.nD → PrngReg), Pre_QuantWIdeal m →
    θ_run (Cert.QuantWIdeal.defs (F := Ideal)) (onTc (τ := Cert.QuantWIdeal.τ) (Cert.QuantWIdeal.main (F := Ideal))) ⟨m, fun _ => 0, g⟩ (fun r => (∀ c : Dev Cert.QuantWIdeal.nD,
      r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0))
      ∧ r.2.sem = fun _ => 0)

def quiescent_QuantisedWIdeal [hQuantisedWIdeal : Cert.QuantisedWIdeal.Facts] : Prop :=
  ∀ (m : (ℓ : Loc Cert.QuantisedWIdeal.nD Cert.QuantisedWIdeal.τ Cert.QuantisedWIdeal.sig) → Buf (Elt Ideal) ℓ) (g : Dev Cert.QuantisedWIdeal.nD → PrngReg), Pre_QuantisedWIdeal m →
    θ_run (Cert.QuantisedWIdeal.defs (F := Ideal)) (onTc (τ := Cert.QuantisedWIdeal.τ) (Cert.QuantisedWIdeal.main (F := Ideal))) ⟨m, fun _ => 0, g⟩ (fun r => (∀ c : Dev Cert.QuantisedWIdeal.nD,
      r.2.mem ((c.tc : Thread Cert.QuantisedWIdeal.nD Cert.QuantisedWIdeal.τ).loc Cert.QuantisedWIdeal.main_arg0) = m ((c.tc : Thread Cert.QuantisedWIdeal.nD Cert.QuantisedWIdeal.τ).loc Cert.QuantisedWIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_QuantX_QuantXIdeal : Prop :=
  True

def algebraic_QuantXIdeal_QuantisedXIdeal [hQuantXIdeal : Cert.QuantXIdeal.Facts] [hQuantisedXIdeal : Cert.QuantisedXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantisedXIdeal.nD Cert.QuantisedXIdeal.τ Cert.QuantisedXIdeal.sig) → Buf (Elt Ideal) ℓ) (g' : Dev Cert.QuantisedXIdeal.nD → PrngReg), Pre_QuantXIdeal m →
    (∀ c : Dev Cert.QuantXIdeal.nD,
      m' ((c.tc : Thread Cert.QuantisedXIdeal.nD Cert.QuantisedXIdeal.τ).loc Cert.QuantisedXIdeal.main_arg0) = m ((c.tc : Thread Cert.QuantXIdeal.nD Cert.QuantXIdeal.τ).loc Cert.QuantXIdeal.main_arg0)) →
    ∃ (v0 : (c : Dev Cert.QuantXIdeal.nD) → Buf (Elt Ideal) ((c.tc : Thread Cert.QuantXIdeal.nD Cert.QuantXIdeal.τ).loc Cert.QuantXIdeal.main_v29_2)) (v1 : (c : Dev Cert.QuantXIdeal.nD) → Buf (Elt Ideal) ((c.tc : Thread Cert.QuantXIdeal.nD Cert.QuantXIdeal.τ).loc Cert.QuantXIdeal.main_v29_3)) (v2 : (c : Dev Cert.QuantXIdeal.nD) → Buf (Elt Ideal) ((c.tc : Thread Cert.QuantXIdeal.nD Cert.QuantXIdeal.τ).loc Cert.QuantXIdeal.main_v29_1)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v29_2) = v0 c
          ∧ r.2.mem ((c.tc : Thread Cert.QuantXIdeal.nD Cert.QuantXIdeal.τ).loc Cert.QuantXIdeal.main_v29_3) = v1 c
          ∧ r.2.mem ((c.tc : Thread Cert.QuantXIdeal.nD Cert.QuantXIdeal.τ).loc Cert.QuantXIdeal.main_v29_1) = v2 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ θ_run (Cert.QuantisedXIdeal.defs (F := Ideal)) (onTc (τ := Cert.QuantisedXIdeal.τ) (Cert.QuantisedXIdeal.main (F := Ideal))) ⟨m', fun _ => 0, g'⟩ (fun r => ∀ c : Dev Cert.QuantisedXIdeal.nD,
          r.2.mem ((c.tc : Thread Cert.QuantisedXIdeal.nD Cert.QuantisedXIdeal.τ).loc Cert.QuantisedXIdeal.main_v61) = v0 c
          ∧ r.2.mem ((c.tc : Thread Cert.QuantisedXIdeal.nD Cert.QuantisedXIdeal.τ).loc Cert.QuantisedXIdeal.main_v64) = v1 c
          ∧ r.2.mem ((c.tc : Thread Cert.QuantisedXIdeal.nD Cert.QuantisedXIdeal.τ).loc Cert.QuantisedXIdeal.main_v96) = v2 c
          ∧ r.2.mem ((c.tc : Thread Cert.QuantisedXIdeal.nD Cert.QuantisedXIdeal.τ).loc Cert.QuantisedXIdeal.main_arg0) = m' ((c.tc : Thread Cert.QuantisedXIdeal.nD Cert.QuantisedXIdeal.τ).loc Cert.QuantisedXIdeal.main_arg0))

def preserves_QuantW_QuantWIdeal : Prop :=
  True

def algebraic_QuantWIdeal_QuantisedWIdeal [hQuantWIdeal : Cert.QuantWIdeal.Facts] [hQuantisedWIdeal : Cert.QuantisedWIdeal.Facts] : Prop :=
  ∀ (m : (ℓ : Loc Cert.QuantWIdeal.nD Cert.QuantWIdeal.τ Cert.QuantWIdeal.sig) → Buf (Elt Ideal) ℓ) (g : Dev Cert.QuantWIdeal.nD → PrngReg)
    (m' : (ℓ : Loc Cert.QuantisedWIdeal.nD Cert.QuantisedWIdeal.τ Cert.QuantisedWIdeal.sig) → Buf (Elt Ideal) ℓ) (g' : Dev Cert.QuantisedWIdeal.nD → PrngReg), Pre_QuantWIdeal m →
    (∀ c : Dev Cert.QuantWIdeal.nD,
      m' ((c.tc : Thread Cert.QuantisedWIdeal.nD Cert.QuantisedWIdeal.τ).loc Cert.QuantisedWIdeal.main_arg0) = m ((c.tc : Thread Cert.QuantWIdeal.nD Cert.QuantWIdeal.τ).loc Cert.QuantWIdeal.main_arg0)) →
    ∃ (v0 : (c : Dev Cert.QuantWIdeal.nD) → Buf (Elt Ideal) ((c.tc : Thread Cert.QuantWIdeal.nD Cert.QuantWIdeal.τ).loc Cert.QuantWIdeal.main_v29_2)) (v1 : (c : Dev Cert.QuantWIdeal.nD) → Buf (Elt Ideal) ((c.tc : Thread Cert.QuantWIdeal.nD Cert.QuantWIdeal.τ).loc Cert.QuantWIdeal.main_v29_3)) (v2 : (c : Dev Cert.QuantWIdeal.nD) → Buf (Elt Ideal) ((c.tc : Thread Cert.QuantWIdeal.nD Cert.QuantWIdeal.τ).loc Cert.QuantWIdeal.main_v29_1)),
      θ_run (Cert.QuantWIdeal.defs (F := Ideal)) (onTc (τ := Cert.QuantWIdeal.τ) (Cert.QuantWIdeal.main (F := Ideal))) ⟨m, fun _ => 0, g⟩ (fun r => ∀ c : Dev Cert.QuantWIdeal.nD,
          r.2.mem ((c.tc : Thread Cert.QuantWIdeal.nD Cert.QuantWIdeal.τ).loc Cert.QuantWIdeal.main_v29_2) = v0 c
          ∧ r.2.mem ((c.tc : Thread Cert.QuantWIdeal.nD Cert.QuantWIdeal.τ).loc Cert.QuantWIdeal.main_v29_3) = v1 c
          ∧ r.2.mem ((c.tc : Thread Cert.QuantWIdeal.nD Cert.QuantWIdeal.τ).loc Cert.QuantWIdeal.main_v29_1) = v2 c
          ∧ r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0))
      ∧ θ_run (Cert.QuantisedWIdeal.defs (F := Ideal)) (onTc (τ := Cert.QuantisedWIdeal.τ) (Cert.QuantisedWIdeal.main (F := Ideal))) ⟨m', fun _ => 0, g'⟩ (fun r => ∀ c : Dev Cert.QuantisedWIdeal.nD,
          r.2.mem ((c.tc : Thread Cert.QuantisedWIdeal.nD Cert.QuantisedWIdeal.τ).loc Cert.QuantisedWIdeal.main_v61) = v0 c
          ∧ r.2.mem ((c.tc : Thread Cert.QuantisedWIdeal.nD Cert.QuantisedWIdeal.τ).loc Cert.QuantisedWIdeal.main_v64) = v1 c
          ∧ r.2.mem ((c.tc : Thread Cert.QuantisedWIdeal.nD Cert.QuantisedWIdeal.τ).loc Cert.QuantisedWIdeal.main_v96) = v2 c
          ∧ r.2.mem ((c.tc : Thread Cert.QuantisedWIdeal.nD Cert.QuantisedWIdeal.τ).loc Cert.QuantisedWIdeal.main_arg0) = m' ((c.tc : Thread Cert.QuantisedWIdeal.nD Cert.QuantisedWIdeal.τ).loc Cert.QuantisedWIdeal.main_arg0))

def Claim : Prop :=
  ∃ (hKernel : Cert.Kernel.Facts) (hKernelIdeal : Cert.KernelIdeal.Facts) (hReferenceIdeal : Cert.ReferenceIdeal.Facts) (hQuantX : Cert.QuantX.Facts) (hQuantXIdeal : Cert.QuantXIdeal.Facts) (hQuantisedXIdeal : Cert.QuantisedXIdeal.Facts) (hQuantW : Cert.QuantW.Facts) (hQuantWIdeal : Cert.QuantWIdeal.Facts) (hQuantisedWIdeal : Cert.QuantisedWIdeal.Facts),
    quiescent_Kernel (hKernel := hKernel)
    ∧ quiescent_KernelIdeal (hKernelIdeal := hKernelIdeal)
    ∧ quiescent_ReferenceIdeal (hReferenceIdeal := hReferenceIdeal)
    ∧ quiescent_QuantX (hQuantX := hQuantX)
    ∧ quiescent_QuantXIdeal (hQuantXIdeal := hQuantXIdeal)
    ∧ quiescent_QuantisedXIdeal (hQuantisedXIdeal := hQuantisedXIdeal)
    ∧ quiescent_QuantW (hQuantW := hQuantW)
    ∧ quiescent_QuantWIdeal (hQuantWIdeal := hQuantWIdeal)
    ∧ quiescent_QuantisedWIdeal (hQuantisedWIdeal := hQuantisedWIdeal)
    ∧ preserves_Kernel_KernelIdeal
    ∧ algebraic_KernelIdeal_ReferenceIdeal (hKernelIdeal := hKernelIdeal) (hReferenceIdeal := hReferenceIdeal)
    ∧ preserves_QuantX_QuantXIdeal
    ∧ algebraic_QuantXIdeal_QuantisedXIdeal (hQuantXIdeal := hQuantXIdeal) (hQuantisedXIdeal := hQuantisedXIdeal)
    ∧ preserves_QuantW_QuantWIdeal
    ∧ algebraic_QuantWIdeal_QuantisedWIdeal (hQuantWIdeal := hQuantWIdeal) (hQuantisedWIdeal := hQuantisedWIdeal)
-- ==== Kernel.lean ====
abbrev S4608x16384 : Shape := ⟨2, ![4608, 16384]⟩
abbrev S16384x5120 : Shape := ⟨2, ![16384, 5120]⟩
abbrev S4608x5120 : Shape := ⟨2, ![4608, 5120]⟩
abbrev S1536x2048 : Shape := ⟨2, ![1536, 2048]⟩
abbrev S2048x512 : Shape := ⟨2, ![2048, 512]⟩
abbrev S1536x512 : Shape := ⟨2, ![1536, 512]⟩

abbrev nBuf : Space → Nat
  | .hbm => 3
  | .vmem => 7
  | .smem => 0
  | _ => 0

abbrev bufTy : (tb : Table) → Fin (tcTables nBuf tb) → BufTy
  | .hbm, ⟨0, _⟩ => ⟨S4608x16384, .bf16⟩
  | .hbm, ⟨1, _⟩ => ⟨S16384x5120, .bf16⟩
  | .hbm, ⟨2, _⟩ => ⟨S4608x5120, .bf16⟩
  | .local _ .vmem, ⟨0, _⟩ => ⟨S1536x2048, .bf16⟩
  | .local _ .vmem, ⟨1, _⟩ => ⟨S1536x2048, .bf16⟩
  | .local _ .vmem, ⟨2, _⟩ => ⟨S2048x512, .bf16⟩
  | .local _ .vmem, ⟨3, _⟩ => ⟨S2048x512, .bf16⟩
  | .local _ .vmem, ⟨4, _⟩ => ⟨S1536x512, .bf16⟩
  | .local _ .vmem, ⟨5, _⟩ => ⟨S1536x512, .bf16⟩
  | .local _ .vmem, ⟨6, _⟩ => ⟨S1536x512, .f32⟩
  | _, _ => ⟨S4608x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 10, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S4608x16384 : Shape := ⟨2, ![4608, 16384]⟩
abbrev S16384x5120 : Shape := ⟨2, ![16384, 5120]⟩
abbrev S4608x5120 : Shape := ⟨2, ![4608, 5120]⟩

abbrev nBuf : Space → Nat
  | .hbm => 4
  | .vmem => 0
  | .smem => 0
  | _ => 0

abbrev bufTy : (tb : Table) → Fin (tcTables nBuf tb) → BufTy
  | .hbm, ⟨0, _⟩ => ⟨S4608x16384, .bf16⟩
  | .hbm, ⟨1, _⟩ => ⟨S16384x5120, .bf16⟩
  | .hbm, ⟨2, _⟩ => ⟨S4608x5120, .f32⟩
  | .hbm, ⟨3, _⟩ => ⟨S4608x5120, .bf16⟩
  | _, _ => ⟨S4608x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QuantX.lean ====
abbrev S4608x16384 : Shape := ⟨2, ![4608, 16384]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S4608x8192 : Shape := ⟨2, ![4608, 8192]⟩
abbrev S4608x2048 : Shape := ⟨2, ![4608, 2048]⟩
abbrev S4608x512 : Shape := ⟨2, ![4608, 512]⟩
abbrev S256x4096 : Shape := ⟨2, ![256, 4096]⟩
abbrev S256x2048 : Shape := ⟨2, ![256, 2048]⟩
abbrev S256x512 : Shape := ⟨2, ![256, 512]⟩
abbrev S256x128 : Shape := ⟨2, ![256, 128]⟩
abbrev S2x128x128 : Shape := ⟨3, ![2, 128, 128]⟩
abbrev S128x128 : Shape := ⟨2, ![128, 128]⟩
abbrev S8x128 : Shape := ⟨2, ![8, 128]⟩
abbrev S16x128 : Shape := ⟨2, ![16, 128]⟩
abbrev S32x128 : Shape := ⟨2, ![32, 128]⟩
abbrev S128x256 : Shape := ⟨2, ![128, 256]⟩
abbrev S1x8x128 : Shape := ⟨3, ![1, 8, 128]⟩
abbrev S128x128x1 : Shape := ⟨3, ![128, 128, 1]⟩
abbrev S1x128x128 : Shape := ⟨3, ![1, 128, 128]⟩

abbrev nBuf : Space → Nat
  | .hbm => 157
  | .vmem => 13
  | .smem => 0
  | _ => 0

abbrev hbmTy0_0 (i : Nat) : BufTy := match i % 128 with
  | 0 => ⟨S4608x16384, .bf16⟩
  | 1 => ⟨S256, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S256, .i32⟩
  | 9 => ⟨S256, .i32⟩
  | 10 => ⟨S_, .i32⟩
  | 11 => ⟨S256, .i32⟩
  | 12 => ⟨S256, .i1⟩
  | 13 => ⟨S_, .i32⟩
  | 14 => ⟨S256, .i32⟩
  | 15 => ⟨S256, .i1⟩
  | 16 => ⟨S_, .i32⟩
  | 17 => ⟨S_, .i1⟩
  | 18 => ⟨S256, .i1⟩
  | 19 => ⟨S256, .i1⟩
  | 20 => ⟨S256, .i1⟩
  | 21 => ⟨S256, .i32⟩
  | 22 => ⟨S256, .i32⟩
  | 23 => ⟨S256, .i32⟩
  | 24 => ⟨S_, .i32⟩
  | 25 => ⟨S_, .i32⟩
  | 26 => ⟨S256, .i32⟩
  | 27 => ⟨S256, .i32⟩
  | 28 => ⟨S256, .i32⟩
  | 29 => ⟨S_, .i32⟩
  | 30 => ⟨S256, .i32⟩
  | 31 => ⟨S256, .i1⟩
  | 32 => ⟨S256, .i32⟩
  | 33 => ⟨S256, .i32⟩
  | 34 => ⟨S_, .i32⟩
  | 35 => ⟨S256, .i32⟩
  | 36 => ⟨S256, .i1⟩
  | 37 => ⟨S256, .i1⟩
  | 38 => ⟨S_, .i32⟩
  | 39 => ⟨S256, .i32⟩
  | 40 => ⟨S256, .i32⟩
  | 41 => ⟨S256, .i32⟩
  | 42 => ⟨S_, .i32⟩
  | 43 => ⟨S256, .i32⟩
  | 44 => ⟨S256, .i32⟩
  | 45 => ⟨S_, .i32⟩
  | 46 => ⟨S_, .i32⟩
  | 47 => ⟨S256, .i32⟩
  | 48 => ⟨S256, .i32⟩
  | 49 => ⟨S256, .i32⟩
  | 50 => ⟨S_, .i32⟩
  | 51 => ⟨S256, .i32⟩
  | 52 => ⟨S256, .i1⟩
  | 53 => ⟨S256, .i32⟩
  | 54 => ⟨S256, .i32⟩
  | 55 => ⟨S_, .i32⟩
  | 56 => ⟨S256, .i32⟩
  | 57 => ⟨S256, .i1⟩
  | 58 => ⟨S256, .i1⟩
  | 59 => ⟨S_, .i32⟩
  | 60 => ⟨S256, .i32⟩
  | 61 => ⟨S256, .i32⟩
  | 62 => ⟨S256, .i32⟩
  | 63 => ⟨S256, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S256, .i32⟩
  | 71 => ⟨S256, .i32⟩
  | 72 => ⟨S_, .i32⟩
  | 73 => ⟨S256, .i32⟩
  | 74 => ⟨S256, .i1⟩
  | 75 => ⟨S_, .i32⟩
  | 76 => ⟨S256, .i32⟩
  | 77 => ⟨S256, .i1⟩
  | 78 => ⟨S_, .i32⟩
  | 79 => ⟨S_, .i1⟩
  | 80 => ⟨S256, .i1⟩
  | 81 => ⟨S256, .i1⟩
  | 82 => ⟨S256, .i1⟩
  | 83 => ⟨S256, .i32⟩
  | 84 => ⟨S256, .i32⟩
  | 85 => ⟨S256, .i32⟩
  | 86 => ⟨S256, .i32⟩
  | 87 => ⟨S256x1, .i32⟩
  | 88 => ⟨S_, .i32⟩
  | 89 => ⟨S_, .i32⟩
  | 90 => ⟨S256, .i32⟩
  | 91 => ⟨S256, .i32⟩
  | 92 => ⟨S256, .i32⟩
  | 93 => ⟨S_, .i32⟩
  | 94 => ⟨S256, .i32⟩
  | 95 => ⟨S256, .i1⟩
  | 96 => ⟨S256, .i32⟩
  | 97 => ⟨S256, .i32⟩
  | 98 => ⟨S_, .i32⟩
  | 99 => ⟨S256, .i32⟩
  | 100 => ⟨S256, .i1⟩
  | 101 => ⟨S256, .i1⟩
  | 102 => ⟨S_, .i32⟩
  | 103 => ⟨S256, .i32⟩
  | 104 => ⟨S256, .i32⟩
  | 105 => ⟨S256, .i32⟩
  | 106 => ⟨S1x256, .i32⟩
  | 107 => ⟨S256x256, .i32⟩
  | 108 => ⟨S256x256, .i32⟩
  | 109 => ⟨S256x256, .i1⟩
  | 110 => ⟨S256x1, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S256, .i32⟩
  | 118 => ⟨S256, .i32⟩
  | 119 => ⟨S_, .i32⟩
  | 120 => ⟨S256, .i32⟩
  | 121 => ⟨S256, .i1⟩
  | 122 => ⟨S_, .i32⟩
  | 123 => ⟨S256, .i32⟩
  | 124 => ⟨S256, .i1⟩
  | 125 => ⟨S_, .i32⟩
  | 126 => ⟨S_, .i1⟩
  | 127 => ⟨S256, .i1⟩
  | _ => ⟨S4608x16384, .bf16⟩

abbrev hbmTy0_1 (i : Nat) : BufTy := match i % 128 with
  | 0 => ⟨S256, .i1⟩
  | 1 => ⟨S256, .i1⟩
  | 2 => ⟨S256, .i32⟩
  | 3 => ⟨S256, .i32⟩
  | 4 => ⟨S256, .i32⟩
  | 5 => ⟨S1x256, .i32⟩
  | 6 => ⟨S256x256, .i32⟩
  | 7 => ⟨S256x256, .i32⟩
  | 8 => ⟨S256x256, .i32⟩
  | 9 => ⟨S256x256, .i32⟩
  | 10 => ⟨S_, .i32⟩
  | 11 => ⟨S256x256, .i32⟩
  | 12 => ⟨S256x256, .i32⟩
  | 13 => ⟨S_, .i32⟩
  | 14 => ⟨S256x256, .i32⟩
  | 15 => ⟨S256x256, .i1⟩
  | 16 => ⟨S_, .f32⟩
  | 17 => ⟨S_, .f32⟩
  | 18 => ⟨S256x256, .f32⟩
  | 19 => ⟨S256x256, .f32⟩
  | 20 => ⟨S256x256, .f32⟩
  | 21 => ⟨S_, .f32⟩
  | 22 => ⟨S256x256, .f32⟩
  | 23 => ⟨S256x256, .f32⟩
  | 24 => ⟨S256x256, .bf16⟩
  | 25 => ⟨S4608x16384, .bf16⟩
  | 26 => ⟨S4608x8192, .i8⟩
  | 27 => ⟨S4608x2048, .i8⟩
  | 28 => ⟨S4608x512, .i8⟩
  | _ => ⟨S4608x16384, .bf16⟩

abbrev hbmTy (i : Nat) : BufTy := match i / 128 with
  | 0 => hbmTy0_0 i
  | 1 => hbmTy0_1 i
  | _ => ⟨S4608x16384, .bf16⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x2048, .i8⟩
  | .local _ .vmem, ⟨6, _⟩ => ⟨S256x2048, .i8⟩
  | .local _ .vmem, ⟨7, _⟩ => ⟨S256x512, .i8⟩
  | .local _ .vmem, ⟨8, _⟩ => ⟨S256x512, .i8⟩
  | .local _ .vmem, ⟨9, _⟩ => ⟨S256x128, .i8⟩
  | .local _ .vmem, ⟨10, _⟩ => ⟨S256x128, .i8⟩
  | .local _ .vmem, ⟨11, _⟩ => ⟨S2x128x128, .i32⟩
  | .local _ .vmem, ⟨12, _⟩ => ⟨S2x128x128, .i32⟩
  | _, _ => ⟨S4608x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v2 : Ref sig .tc := ⟨.hbm, 41, rfl⟩
abbrev main_c_1 : Ref sig .tc := ⟨.hbm, 42, rfl⟩
abbrev main_v3 : Ref sig .tc := ⟨.hbm, 43, rfl⟩
abbrev main_v4 : Ref sig .tc := ⟨.hbm, 44, rfl⟩
abbrev main_c_2 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v5 : Ref sig .tc := ⟨.hbm, 62, rfl⟩
abbrev main_v6 : Ref sig .tc := ⟨.hbm, 63, rfl⟩
abbrev main_c_3 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_v5 : Ref sig .tc := ⟨.hbm, 73, rfl⟩
abbrev main_call3_v6 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_c_3 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_v7 : Ref sig .tc := ⟨.hbm, 85, rfl⟩
abbrev main_v8 : Ref sig .tc := ⟨.hbm, 86, rfl⟩
abbrev main_v9 : Ref sig .tc := ⟨.hbm, 87, rfl⟩
abbrev main_c_4 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_c : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_0 : Ref sig .tc := ⟨.hbm, 102, rfl⟩
abbrev main_call4_v12 : Ref sig .tc := ⟨.hbm, 103, rfl⟩
abbrev main_call4_v13 : Ref sig .tc := ⟨.hbm, 104, rfl⟩
abbrev main_v10 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_c_5 : Ref sig .tc := ⟨.hbm, 111, rfl⟩
abbrev main_call5_v0 : Ref sig .tc := ⟨.hbm, 112, rfl⟩
abbrev main_call5_c : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_c_1 : Ref sig .tc := ⟨.hbm, 119, rfl⟩
abbrev main_call5_v5 : Ref sig .tc := ⟨.hbm, 120, rfl⟩
abbrev main_call5_v6 : Ref sig .tc := ⟨.hbm, 121, rfl⟩
abbrev main_call5_c_2 : Ref sig .tc := ⟨.hbm, 122, rfl⟩
abbrev main_call5_v7 : Ref sig .tc := ⟨.hbm, 123, rfl⟩
abbrev main_call5_v8 : Ref sig .tc := ⟨.hbm, 124, rfl⟩
abbrev main_call5_c_3 : Ref sig .tc := ⟨.hbm, 125, rfl⟩
abbrev main_call5_v9 : Ref sig .tc := ⟨.hbm, 126, rfl⟩
abbrev main_call5_v10 : Ref sig .tc := ⟨.hbm, 127, rfl⟩
abbrev main_call5_v11 : Ref sig .tc := ⟨.hbm, 128, rfl⟩
abbrev main_call5_v12 : Ref sig .tc := ⟨.hbm, 129, rfl⟩
abbrev main_call5_v13 : Ref sig .tc := ⟨.hbm, 130, rfl⟩
abbrev main_call5_v14 : Ref sig .tc := ⟨.hbm, 131, rfl⟩
abbrev main_v16 : Ref sig .tc := ⟨.hbm, 132, rfl⟩
abbrev main_v17 : Ref sig .tc := ⟨.hbm, 133, rfl⟩
abbrev main_v18 : Ref sig .tc := ⟨.hbm, 134, rfl⟩
abbrev main_v19 : Ref sig .tc := ⟨.hbm, 135, rfl⟩
abbrev main_v20 : Ref sig .tc := ⟨.hbm, 136, rfl⟩
abbrev main_v21 : Ref sig .tc := ⟨.hbm, 137, rfl⟩
abbrev main_c_6 : Ref sig .tc := ⟨.hbm, 138, rfl⟩
abbrev main_v22 : Ref sig .tc := ⟨.hbm, 139, rfl⟩
abbrev main_v23 : Ref sig .tc := ⟨.hbm, 140, rfl⟩
abbrev main_c_7 : Ref sig .tc := ⟨.hbm, 141, rfl⟩
abbrev main_v24 : Ref sig .tc := ⟨.hbm, 142, rfl⟩
abbrev main_v25 : Ref sig .tc := ⟨.hbm, 143, rfl⟩
abbrev main_cst : Ref sig .tc := ⟨.hbm, 144, rfl⟩
abbrev main_cst_8 : Ref sig .tc := ⟨.hbm, 145, rfl⟩
abbrev main_call6_v0 : Ref sig .tc := ⟨.hbm, 146, rfl⟩
abbrev main_call6_v1 : Ref sig .tc := ⟨.hbm, 147, rfl⟩
abbrev main_v26 : Ref sig .tc := ⟨.hbm, 148, rfl⟩
abbrev main_cst_9 : Ref sig .tc := ⟨.hbm, 149, rfl⟩
abbrev main_call7_v0 : Ref sig .tc := ⟨.hbm, 150, rfl⟩
abbrev main_v27 : Ref sig .tc := ⟨.hbm, 151, rfl⟩
abbrev main_v28 : Ref sig .tc := ⟨.hbm, 152, rfl⟩
abbrev main_v29_0 : Ref sig .tc := ⟨.hbm, 153, rfl⟩
abbrev main_v29_1 : Ref sig .tc := ⟨.hbm, 154, rfl⟩
abbrev main_v29_2 : Ref sig .tc := ⟨.hbm, 155, rfl⟩
abbrev main_v29_3 : Ref sig .tc := ⟨.hbm, 156, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 4], ![false, false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let c0_i32_69 : BitVec 32 := 0#32
  let v171 : BitVec 32 := Scalar.addi v170 c0_i32_69
  v171
def k0_off1 (k0_t1 : Fin k0_t1_loop.trips) (c0_i32_69 : BitVec 32) : Fin 2 → Nat :=
  let c0_70 : Index := 0#32
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let v171 : BitVec 32 := Scalar.addi v170 c0_i32_69
  let v172 : BitVec 32 := v171
  let v173 : Index := Scalar.indexCast v172
  ![0, v173.toNat]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let c0_i32_69 : BitVec 32 := 0#32
  let v171 : BitVec 32 := Scalar.addi v170 c0_i32_69
  v171
def k0_off2 (k0_t1 : Fin k0_t1_loop.trips) (c0_i32_69 : BitVec 32) : Fin 2 → Nat :=
  let c0_466 : Index := 0#32
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let v171 : BitVec 32 := Scalar.addi v170 c0_i32_69
  let v1313 : BitVec 32 := v171
  let v1315 : Index := Scalar.indexCast v1313
  ![0, v1315.toNat]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_467 : BitVec 32 := 4#32
  let v1317 : BitVec 32 := Scalar.muli arg10 c4_i32_467
  let c0_i32_468 : BitVec 32 := 0#32
  let v1318 : BitVec 32 := Scalar.addi v1317 c0_i32_468
  let c8_i32_469 : BitVec 32 := 8#32
  let v1319 : BitVec 32 := Scalar.muli v1318 c8_i32_469
  v1319
def k0_off3 (k0_t1 : Fin k0_t1_loop.trips) (c0_i32_468 : BitVec 32) : Fin 3 → Nat :=
  let c0_470 : Index := 0#32
  let c0_i32 : BitVec 32 := 0#32
  let c1_i32 : BitVec 32 := 1#32
  let arg10 : BitVec 32 := Scf.iv c0_i32 c1_i32 k0_t1
  let c4_i32_467 : BitVec 32 := 4#32
  let v1317 : BitVec 32 := Scalar.muli arg10 c4_i32_467
  let v1318 : BitVec 32 := Scalar.addi v1317 c0_i32_468
  let c8_i32_469 : BitVec 32 := 8#32
  let v1319 : BitVec 32 := Scalar.muli v1318 c8_i32_469
  let v1320 : BitVec 32 := v1319
  let v1321 : Index := Scalar.indexCast v1320
  let c0_471 : Index := 0#32
  ![0, v1321.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let c0_i32_69 : BitVec 32 := 0#32
  let v171 : BitVec 32 := Scalar.addi v170 c0_i32_69
  v171
def k0_off4 (k0_t1 : Fin k0_t1_loop.trips) (c0_i32_69 : BitVec 32) : Fin 2 → Nat :=
  let c128_900 : Index := 128#32
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let v171 : BitVec 32 := Scalar.addi v170 c0_i32_69
  let v2464 : BitVec 32 := v171
  let v2466 : Index := Scalar.indexCast v2464
  ![128, v2466.toNat]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_901 : BitVec 32 := 4#32
  let v2468 : BitVec 32 := Scalar.muli arg10 c4_i32_901
  let c0_i32_902 : BitVec 32 := 0#32
  let v2469 : BitVec 32 := Scalar.addi v2468 c0_i32_902
  let c8_i32_903 : BitVec 32 := 8#32
  let v2470 : BitVec 32 := Scalar.muli v2469 c8_i32_903
  v2470
def k0_off5 (k0_t1 : Fin k0_t1_loop.trips) (c0_i32_902 : BitVec 32) : Fin 3 → Nat :=
  let c1_904 : Index := 1#32
  let c0_i32 : BitVec 32 := 0#32
  let c1_i32 : BitVec 32 := 1#32
  let arg10 : BitVec 32 := Scf.iv c0_i32 c1_i32 k0_t1
  let c4_i32_901 : BitVec 32 := 4#32
  let v2468 : BitVec 32 := Scalar.muli arg10 c4_i32_901
  let v2469 : BitVec 32 := Scalar.addi v2468 c0_i32_902
  let c8_i32_903 : BitVec 32 := 8#32
  let v2470 : BitVec 32 := Scalar.muli v2469 c8_i32_903
  let v2471 : BitVec 32 := v2470
  let v2472 : Index := Scalar.indexCast v2471
  let c0_905 : Index := 0#32
  ![1, v2472.toNat, 0]
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_908 : BitVec 32 := 1024#32
  let v2480 : BitVec 32 := Scalar.muli arg10 c1024_i32_908
  let c256_i32_909 : BitVec 32 := 256#32
  let v2481 : BitVec 32 := Scalar.addi v2480 c256_i32_909
  v2481
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_908 : BitVec 32 := 1024#32
  let v2480 : BitVec 32 := Scalar.muli arg10 c1024_i32_908
  let c256_i32_909 : BitVec 32 := 256#32
  let v2481 : BitVec 32 := Scalar.addi v2480 c256_i32_909
  v2481
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_1341 : BitVec 32 := 4#32
  let v3627 : BitVec 32 := Scalar.muli arg10 c4_i32_1341
  let c1_i32_1342 : BitVec 32 := 1#32
  let v3628 : BitVec 32 := Scalar.addi v3627 c1_i32_1342
  let c8_i32_1343 : BitVec 32 := 8#32
  let v3629 : BitVec 32 := Scalar.muli v3628 c8_i32_1343
  v3629
def k0_mult9 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_908 : BitVec 32 := 1024#32
  let v2480 : BitVec 32 := Scalar.muli arg10 c1024_i32_908
  let c256_i32_909 : BitVec 32 := 256#32
  let v2481 : BitVec 32 := Scalar.addi v2480 c256_i32_909
  v2481
def k0_mult10 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_1775 : BitVec 32 := 4#32
  let v4778 : BitVec 32 := Scalar.muli arg10 c4_i32_1775
  let c1_i32_1776 : BitVec 32 := 1#32
  let v4779 : BitVec 32 := Scalar.addi v4778 c1_i32_1776
  let c8_i32_1777 : BitVec 32 := 8#32
  let v4780 : BitVec 32 := Scalar.muli v4779 c8_i32_1777
  v4780
def k0_mult11 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_1782 : BitVec 32 := 1024#32
  let v4790 : BitVec 32 := Scalar.muli arg10 c1024_i32_1782
  let c512_i32_1783 : BitVec 32 := 512#32
  let v4791 : BitVec 32 := Scalar.addi v4790 c512_i32_1783
  v4791
def k0_mult12 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_1782 : BitVec 32 := 1024#32
  let v4790 : BitVec 32 := Scalar.muli arg10 c1024_i32_1782
  let c512_i32_1783 : BitVec 32 := 512#32
  let v4791 : BitVec 32 := Scalar.addi v4790 c512_i32_1783
  v4791
def k0_mult13 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_2215 : BitVec 32 := 4#32
  let v5937 : BitVec 32 := Scalar.muli arg10 c4_i32_2215
  let c2_i32_2216 : BitVec 32 := 2#32
  let v5938 : BitVec 32 := Scalar.addi v5937 c2_i32_2216
  let c8_i32_2217 : BitVec 32 := 8#32
  let v5939 : BitVec 32 := Scalar.muli v5938 c8_i32_2217
  v5939
def k0_mult14 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_1782 : BitVec 32 := 1024#32
  let v4790 : BitVec 32 := Scalar.muli arg10 c1024_i32_1782
  let c512_i32_1783 : BitVec 32 := 512#32
  let v4791 : BitVec 32 := Scalar.addi v4790 c512_i32_1783
  v4791
def k0_mult15 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_2649 : BitVec 32 := 4#32
  let v7088 : BitVec 32 := Scalar.muli arg10 c4_i32_2649
  let c2_i32_2650 : BitVec 32 := 2#32
  let v7089 : BitVec 32 := Scalar.addi v7088 c2_i32_2650
  let c8_i32_2651 : BitVec 32 := 8#32
  let v7090 : BitVec 32 := Scalar.muli v7089 c8_i32_2651
  v7090
def k0_mult16 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_2656 : BitVec 32 := 1024#32
  let v7100 : BitVec 32 := Scalar.muli arg10 c1024_i32_2656
  let c768_i32 : BitVec 32 := 768#32
  let v7101 : BitVec 32 := Scalar.addi v7100 c768_i32
  v7101
def k0_mult17 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_2656 : BitVec 32 := 1024#32
  let v7100 : BitVec 32 := Scalar.muli arg10 c1024_i32_2656
  let c768_i32 : BitVec 32 := 768#32
  let v7101 : BitVec 32 := Scalar.addi v7100 c768_i32
  v7101
def k0_mult18 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_3088 : BitVec 32 := 4#32
  let v8247 : BitVec 32 := Scalar.muli arg10 c4_i32_3088
  let c3_i32_3089 : BitVec 32 := 3#32
  let v8248 : BitVec 32 := Scalar.addi v8247 c3_i32_3089
  let c8_i32_3090 : BitVec 32 := 8#32
  let v8249 : BitVec 32 := Scalar.muli v8248 c8_i32_3090
  v8249
def k0_mult19 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_2656 : BitVec 32 := 1024#32
  let v7100 : BitVec 32 := Scalar.muli arg10 c1024_i32_2656
  let c768_i32 : BitVec 32 := 768#32
  let v7101 : BitVec 32 := Scalar.addi v7100 c768_i32
  v7101
def k0_mult20 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_3522 : BitVec 32 := 4#32
  let v9398 : BitVec 32 := Scalar.muli arg10 c4_i32_3522
  let c3_i32_3523 : BitVec 32 := 3#32
  let v9399 : BitVec 32 := Scalar.addi v9398 c3_i32_3523
  let c8_i32_3524 : BitVec 32 := 8#32
  let v9400 : BitVec 32 := Scalar.muli v9399 c8_i32_3524
  v9400
def k0_mult21 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3536 : BitVec 32 := 512#32
  let v9437 : BitVec 32 := Scalar.muli arg10 c512_i32_3536
  let c0_i32_3537 : BitVec 32 := 0#32
  let v9438 : BitVec 32 := Scalar.addi v9437 c0_i32_3537
  v9438
def k0_off6 (k0_t1 : Fin k0_t1_loop.trips) (c0_i32_3537 : BitVec 32) : Fin 2 → Nat :=
  let c0_3538 : Index := 0#32
  let c0_i32 : BitVec 32 := 0#32
  let c1_i32 : BitVec 32 := 1#32
  let arg10 : BitVec 32 := Scf.iv c0_i32 c1_i32 k0_t1
  let c512_i32_3536 : BitVec 32 := 512#32
  let v9437 : BitVec 32 := Scalar.muli arg10 c512_i32_3536
  let v9438 : BitVec 32 := Scalar.addi v9437 c0_i32_3537
  let v9439 : BitVec 32 := v9438
  let v9440 : Index := Scalar.indexCast v9439
  ![0, v9440.toNat]
def k0_mult22 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3548 : BitVec 32 := 512#32
  let v9467 : BitVec 32 := Scalar.muli arg10 c512_i32_3548
  let c128_i32_3549 : BitVec 32 := 128#32
  let v9468 : BitVec 32 := Scalar.addi v9467 c128_i32_3549
  v9468
def k0_mult23 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3560 : BitVec 32 := 512#32
  let v9497 : BitVec 32 := Scalar.muli arg10 c512_i32_3560
  let c256_i32_3561 : BitVec 32 := 256#32
  let v9498 : BitVec 32 := Scalar.addi v9497 c256_i32_3561
  v9498
def k0_mult24 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3572 : BitVec 32 := 512#32
  let v9527 : BitVec 32 := Scalar.muli arg10 c512_i32_3572
  let c384_i32 : BitVec 32 := 384#32
  let v9528 : BitVec 32 := Scalar.addi v9527 c384_i32
  v9528
def k0_mult25 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3583 : BitVec 32 := 512#32
  let v9559 : BitVec 32 := Scalar.muli arg10 c512_i32_3583
  let c0_i32_3584 : BitVec 32 := 0#32
  let v9560 : BitVec 32 := Scalar.addi v9559 c0_i32_3584
  v9560
def k0_off7 (k0_t1 : Fin k0_t1_loop.trips) (c0_i32_3584 : BitVec 32) : Fin 2 → Nat :=
  let c128_3585 : Index := 128#32
  let c0_i32 : BitVec 32 := 0#32
  let c1_i32 : BitVec 32 := 1#32
  let arg10 : BitVec 32 := Scf.iv c0_i32 c1_i32 k0_t1
  let c512_i32_3583 : BitVec 32 := 512#32
  let v9559 : BitVec 32 := Scalar.muli arg10 c512_i32_3583
  let v9560 : BitVec 32 := Scalar.addi v9559 c0_i32_3584
  let v9561 : BitVec 32 := v9560
  let v9562 : Index := Scalar.indexCast v9561
  ![128, v9562.toNat]
def k0_mult26 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3595 : BitVec 32 := 512#32
  let v9589 : BitVec 32 := Scalar.muli arg10 c512_i32_3595
  let c128_i32_3596 : BitVec 32 := 128#32
  let v9590 : BitVec 32 := Scalar.addi v9589 c128_i32_3596
  v9590
def k0_mult27 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3607 : BitVec 32 := 512#32
  let v9619 : BitVec 32 := Scalar.muli arg10 c512_i32_3607
  let c256_i32_3608 : BitVec 32 := 256#32
  let v9620 : BitVec 32 := Scalar.addi v9619 c256_i32_3608
  v9620
def k0_mult28 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3619 : BitVec 32 := 512#32
  let v9649 : BitVec 32 := Scalar.muli arg10 c512_i32_3619
  let c384_i32_3620 : BitVec 32 := 384#32
  let v9650 : BitVec 32 := Scalar.addi v9649 c384_i32_3620
  v9650
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QuantisedXIdeal.lean ====
abbrev S4608x16384 : Shape := ⟨2, ![4608, 16384]⟩
abbrev S4608x512x32 : Shape := ⟨3, ![4608, 512, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S4608x512 : Shape := ⟨2, ![4608, 512]⟩
abbrev S252 : Shape := ⟨1, ![252]⟩
abbrev S4608x512x1 : Shape := ⟨3, ![4608, 512, 1]⟩
abbrev S1x1x252 : Shape := ⟨3, ![1, 1, 252]⟩
abbrev S4608x512x252 : Shape := ⟨3, ![4608, 512, 252]⟩
abbrev S4608x2048x8 : Shape := ⟨3, ![4608, 2048, 8]⟩
abbrev S8 : Shape := ⟨1, ![8]⟩
abbrev S1x1x8 : Shape := ⟨3, ![1, 1, 8]⟩
abbrev S4608x2048 : Shape := ⟨2, ![4608, 2048]⟩
abbrev S4608x8192x2 : Shape := ⟨3, ![4608, 8192, 2]⟩
abbrev S4608x8192x1 : Shape := ⟨3, ![4608, 8192, 1]⟩
abbrev S4608x8192 : Shape := ⟨2, ![4608, 8192]⟩

abbrev nBuf : Space → Nat
  | .hbm => 137
  | .vmem => 0
  | .smem => 0
  | _ => 0

abbrev hbmTy0_0 (i : Nat) : BufTy := match i % 128 with
  | 0 => ⟨S4608x16384, .bf16⟩
  | 1 => ⟨S4608x512x32, .bf16⟩
  | 2 => ⟨S32, .i32⟩
  | 3 => ⟨S32x1, .i32⟩
  | 4 => ⟨S1x32, .i32⟩
  | 5 => ⟨S32x32, .i32⟩
  | 6 => ⟨S32x32, .i32⟩
  | 7 => ⟨S32x32, .i32⟩
  | 8 => ⟨S32x32, .i32⟩
  | 9 => ⟨S_, .i32⟩
  | 10 => ⟨S32x32, .i32⟩
  | 11 => ⟨S32x32, .i32⟩
  | 12 => ⟨S_, .i32⟩
  | 13 => ⟨S32x32, .i32⟩
  | 14 => ⟨S32x32, .i1⟩
  | 15 => ⟨S_, .f32⟩
  | 16 => ⟨S_, .f32⟩
  | 17 => ⟨S32x32, .f32⟩
  | 18 => ⟨S32x32, .f32⟩
  | 19 => ⟨S32x32, .f32⟩
  | 20 => ⟨S32x32, .bf16⟩
  | 21 => ⟨S4608x512x32, .f32⟩
  | 22 => ⟨S4608x512x32, .f32⟩
  | 23 => ⟨S_, .f32⟩
  | 24 => ⟨S4608x512, .f32⟩
  | 25 => ⟨S_, .f32⟩
  | 26 => ⟨S4608x512, .f32⟩
  | 27 => ⟨S4608x512, .f32⟩
  | 28 => ⟨S4608x512, .f32⟩
  | 29 => ⟨S_, .f32⟩
  | 30 => ⟨S4608x512, .f32⟩
  | 31 => ⟨S4608x512, .f32⟩
  | 32 => ⟨S_, .f32⟩
  | 33 => ⟨S4608x512, .f32⟩
  | 34 => ⟨S4608x512, .f32⟩
  | 35 => ⟨S252, .i32⟩
  | 36 => ⟨S_, .i32⟩
  | 37 => ⟨S252, .i32⟩
  | 38 => ⟨S252, .i32⟩
  | 39 => ⟨S252, .f32⟩
  | 40 => ⟨S_, .f32⟩
  | 41 => ⟨S252, .f32⟩
  | 42 => ⟨S252, .f32⟩
  | 43 => ⟨S4608x512x1, .f32⟩
  | 44 => ⟨S1x1x252, .f32⟩
  | 45 => ⟨S4608x512x252, .f32⟩
  | 46 => ⟨S4608x512x252, .f32⟩
  | 47 => ⟨S4608x512x252, .i1⟩
  | 48 => ⟨S4608x512x252, .i32⟩
  | 49 => ⟨S_, .i32⟩
  | 50 => ⟨S4608x512, .i32⟩
  | 51 => ⟨S_, .f32⟩
  | 52 => ⟨S4608x512, .f32⟩
  | 53 => ⟨S4608x512, .i1⟩
  | 54 => ⟨S_, .i32⟩
  | 55 => ⟨S4608x512, .i32⟩
  | 56 => ⟨S4608x512, .i32⟩
  | 57 => ⟨S_, .i32⟩
  | 58 => ⟨S_, .i32⟩
  | 59 => ⟨S4608x512, .i32⟩
  | 60 => ⟨S4608x512, .i32⟩
  | 61 => ⟨S_, .f32⟩
  | 62 => ⟨S4608x512x32, .f32⟩
  | 63 => ⟨S4608x512x32, .f32⟩
  | 64 => ⟨S4608x512, .i32⟩
  | 65 => ⟨S4608x512, .f32⟩
  | 66 => ⟨S_, .f32⟩
  | 67 => ⟨S4608x512, .f32⟩
  | 68 => ⟨S4608x512, .f32⟩
  | 69 => ⟨S4608x512x1, .f32⟩
  | 70 => ⟨S4608x512x32, .f32⟩
  | 71 => ⟨S4608x512x32, .f32⟩
  | 72 => ⟨S4608x512x32, .f32⟩
  | 73 => ⟨S_, .f32⟩
  | 74 => ⟨S4608x512x32, .f32⟩
  | 75 => ⟨S4608x512x32, .i1⟩
  | 76 => ⟨S4608x2048x8, .i1⟩
  | 77 => ⟨S4608x2048x8, .i32⟩
  | 78 => ⟨S8, .i32⟩
  | 79 => ⟨S1x1x8, .i32⟩
  | 80 => ⟨S4608x2048x8, .i32⟩
  | 81 => ⟨S4608x2048x8, .i32⟩
  | 82 => ⟨S_, .i32⟩
  | 83 => ⟨S4608x2048, .i32⟩
  | 84 => ⟨S4608x2048, .i8⟩
  | 85 => ⟨S_, .i32⟩
  | 86 => ⟨S4608x512, .i32⟩
  | 87 => ⟨S4608x512, .i32⟩
  | 88 => ⟨S4608x512, .i8⟩
  | 89 => ⟨S_, .f32⟩
  | 90 => ⟨S_, .f32⟩
  | 91 => ⟨S_, .f32⟩
  | 92 => ⟨S4608x512x32, .f32⟩
  | 93 => ⟨S4608x512x32, .f32⟩
  | 94 => ⟨S_, .f32⟩
  | 95 => ⟨S4608x512x32, .f32⟩
  | 96 => ⟨S4608x512x32, .f32⟩
  | 97 => ⟨S4608x512x32, .f32⟩
  | 98 => ⟨S_, .f32⟩
  | 99 => ⟨S4608x512x32, .f32⟩
  | 100 => ⟨S4608x512x32, .i1⟩
  | 101 => ⟨S_, .f32⟩
  | 102 => ⟨S4608x512x32, .f32⟩
  | 103 => ⟨S4608x512x32, .f32⟩
  | 104 => ⟨S_, .f32⟩
  | 105 => ⟨S4608x512x32, .f32⟩
  | 106 => ⟨S4608x512x32, .i1⟩
  | 107 => ⟨S_, .f32⟩
  | 108 => ⟨S4608x512x32, .f32⟩
  | 109 => ⟨S4608x512x32, .f32⟩
  | 110 => ⟨S_, .f32⟩
  | 111 => ⟨S4608x512x32, .f32⟩
  | 112 => ⟨S4608x512x32, .f32⟩
  | 113 => ⟨S_, .f32⟩
  | 114 => ⟨S4608x512x32, .f32⟩
  | 115 => ⟨S4608x512x32, .f32⟩
  | 116 => ⟨S4608x512x32, .f32⟩
  | 117 => ⟨S4608x512x32, .f32⟩
  | 118 => ⟨S4608x512x32, .i32⟩
  | 119 => ⟨S_, .f32⟩
  | 120 => ⟨S4608x512x32, .f32⟩
  | 121 => ⟨S4608x512x32, .i1⟩
  | 122 => ⟨S4608x512x32, .i32⟩
  | 123 => ⟨S_, .i32⟩
  | 124 => ⟨S4608x512x32, .i32⟩
  | 125 => ⟨S4608x512x32, .i32⟩
  | 126 => ⟨S4608x512x32, .i32⟩
  | 127 => ⟨S4608x8192x2, .i32⟩
  | _ => ⟨S4608x16384, .bf16⟩

abbrev hbmTy0_1 (i : Nat) : BufTy := match i % 128 with
  | 0 => ⟨S4608x8192x1, .i32⟩
  | 1 => ⟨S4608x8192, .i32⟩
  | 2 => ⟨S4608x8192x1, .i32⟩
  | 3 => ⟨S4608x8192, .i32⟩
  | 4 => ⟨S_, .i32⟩
  | 5 => ⟨S4608x8192, .i32⟩
  | 6 => ⟨S4608x8192, .i32⟩
  | 7 => ⟨S4608x8192, .i32⟩
  | 8 => ⟨S4608x8192, .i8⟩
  | _ => ⟨S4608x16384, .bf16⟩

abbrev hbmTy (i : Nat) : BufTy := match i / 128 with
  | 0 => hbmTy0_0 i
  | 1 => hbmTy0_1 i
  | _ => ⟨S4608x16384, .bf16⟩

abbrev bufTy : (tb : Table) → Fin (tcTables nBuf tb) → BufTy
  | .hbm, ⟨i, _⟩ => hbmTy i
  | _, _ => ⟨S4608x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_c_10 : Ref sig .tc := ⟨.hbm, 54, rfl⟩
abbrev main_v39 : Ref sig .tc := ⟨.hbm, 55, rfl⟩
abbrev main_v40 : Ref sig .tc := ⟨.hbm, 56, rfl⟩
abbrev main_c_11 : Ref sig .tc := ⟨.hbm, 57, rfl⟩
abbrev main_call1_v0 : Ref sig .tc := ⟨.hbm, 58, rfl⟩
abbrev main_call1_v1 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_15 : Ref sig .tc := ⟨.hbm, 82, rfl⟩
abbrev main_v60 : Ref sig .tc := ⟨.hbm, 83, rfl⟩
abbrev main_v61 : Ref sig .tc := ⟨.hbm, 84, rfl⟩
abbrev main_c_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_cst_18 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v65 : Ref sig .tc := ⟨.hbm, 96, rfl⟩
abbrev main_v66 : Ref sig .tc := ⟨.hbm, 97, rfl⟩
abbrev main_cst_19 : Ref sig .tc := ⟨.hbm, 98, rfl⟩
abbrev main_v67 : Ref sig .tc := ⟨.hbm, 99, rfl⟩
abbrev main_v68 : Ref sig .tc := ⟨.hbm, 100, rfl⟩
abbrev main_cst_20 : Ref sig .tc := ⟨.hbm, 101, rfl⟩
abbrev main_v69 : Ref sig .tc := ⟨.hbm, 102, rfl⟩
abbrev main_v70 : Ref sig .tc := ⟨.hbm, 103, rfl⟩
abbrev main_cst_21 : Ref sig .tc := ⟨.hbm, 104, rfl⟩
abbrev main_v71 : Ref sig .tc := ⟨.hbm, 105, rfl⟩
abbrev main_v72 : Ref sig .tc := ⟨.hbm, 106, rfl⟩
abbrev main_cst_22 : Ref sig .tc := ⟨.hbm, 107, rfl⟩
abbrev main_v73 : Ref sig .tc := ⟨.hbm, 108, rfl⟩
abbrev main_v74 : Ref sig .tc := ⟨.hbm, 109, rfl⟩
abbrev main_cst_23 : Ref sig .tc := ⟨.hbm, 110, rfl⟩
abbrev main_v75 : Ref sig .tc := ⟨.hbm, 111, rfl⟩
abbrev main_v76 : Ref sig .tc := ⟨.hbm, 112, rfl⟩
abbrev main_cst_24 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_25 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_26 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_27 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]
-- ==== QuantW.lean ====
abbrev S5120x16384 : Shape := ⟨2, ![5120, 16384]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16384x5120 : Shape := ⟨2, ![16384, 5120]⟩
abbrev S5120x8192 : Shape := ⟨2, ![5120, 8192]⟩
abbrev S5120x2048 : Shape := ⟨2, ![5120, 2048]⟩
abbrev S5120x512 : Shape := ⟨2, ![5120, 512]⟩
abbrev S256x4096 : Shape := ⟨2, ![256, 4096]⟩
abbrev S4096x256 : Shape := ⟨2, ![4096, 256]⟩
abbrev S256x2048 : Shape := ⟨2, ![256, 2048]⟩
abbrev S256x512 : Shape := ⟨2, ![256, 512]⟩
abbrev S256x128 : Shape := ⟨2, ![256, 128]⟩
abbrev S2x128x128 : Shape := ⟨3, ![2, 128, 128]⟩
abbrev S128x128 : Shape := ⟨2, ![128, 128]⟩
abbrev S8x128 : Shape := ⟨2, ![8, 128]⟩
abbrev S16x128 : Shape := ⟨2, ![16, 128]⟩
abbrev S32x128 : Shape := ⟨2, ![32, 128]⟩
abbrev S1x8x128 : Shape := ⟨3, ![1, 8, 128]⟩
abbrev S128x128x1 : Shape := ⟨3, ![128, 128, 1]⟩
abbrev S1x128x128 : Shape := ⟨3, ![1, 128, 128]⟩

abbrev nBuf : Space → Nat
  | .hbm => 157
  | .vmem => 13
  | .smem => 0
  | _ => 0

abbrev hbmTy0_0 (i : Nat) : BufTy := match i % 128 with
  | 0 => ⟨S5120x16384, .bf16⟩
  | 1 => ⟨S256, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S256, .i32⟩
  | 9 => ⟨S256, .i32⟩
  | 10 => ⟨S_, .i32⟩
  | 11 => ⟨S256, .i32⟩
  | 12 => ⟨S256, .i1⟩
  | 13 => ⟨S_, .i32⟩
  | 14 => ⟨S256, .i32⟩
  | 15 => ⟨S256, .i1⟩
  | 16 => ⟨S_, .i32⟩
  | 17 => ⟨S_, .i1⟩
  | 18 => ⟨S256, .i1⟩
  | 19 => ⟨S256, .i1⟩
  | 20 => ⟨S256, .i1⟩
  | 21 => ⟨S256, .i32⟩
  | 22 => ⟨S256, .i32⟩
  | 23 => ⟨S256, .i32⟩
  | 24 => ⟨S_, .i32⟩
  | 25 => ⟨S_, .i32⟩
  | 26 => ⟨S256, .i32⟩
  | 27 => ⟨S256, .i32⟩
  | 28 => ⟨S256, .i32⟩
  | 29 => ⟨S_, .i32⟩
  | 30 => ⟨S256, .i32⟩
  | 31 => ⟨S256, .i1⟩
  | 32 => ⟨S256, .i32⟩
  | 33 => ⟨S256, .i32⟩
  | 34 => ⟨S_, .i32⟩
  | 35 => ⟨S256, .i32⟩
  | 36 => ⟨S256, .i1⟩
  | 37 => ⟨S256, .i1⟩
  | 38 => ⟨S_, .i32⟩
  | 39 => ⟨S256, .i32⟩
  | 40 => ⟨S256, .i32⟩
  | 41 => ⟨S256, .i32⟩
  | 42 => ⟨S_, .i32⟩
  | 43 => ⟨S256, .i32⟩
  | 44 => ⟨S256, .i32⟩
  | 45 => ⟨S_, .i32⟩
  | 46 => ⟨S_, .i32⟩
  | 47 => ⟨S256, .i32⟩
  | 48 => ⟨S256, .i32⟩
  | 49 => ⟨S256, .i32⟩
  | 50 => ⟨S_, .i32⟩
  | 51 => ⟨S256, .i32⟩
  | 52 => ⟨S256, .i1⟩
  | 53 => ⟨S256, .i32⟩
  | 54 => ⟨S256, .i32⟩
  | 55 => ⟨S_, .i32⟩
  | 56 => ⟨S256, .i32⟩
  | 57 => ⟨S256, .i1⟩
  | 58 => ⟨S256, .i1⟩
  | 59 => ⟨S_, .i32⟩
  | 60 => ⟨S256, .i32⟩
  | 61 => ⟨S256, .i32⟩
  | 62 => ⟨S256, .i32⟩
  | 63 => ⟨S256, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S256, .i32⟩
  | 71 => ⟨S256, .i32⟩
  | 72 => ⟨S_, .i32⟩
  | 73 => ⟨S256, .i32⟩
  | 74 => ⟨S256, .i1⟩
  | 75 => ⟨S_, .i32⟩
  | 76 => ⟨S256, .i32⟩
  | 77 => ⟨S256, .i1⟩
  | 78 => ⟨S_, .i32⟩
  | 79 => ⟨S_, .i1⟩
  | 80 => ⟨S256, .i1⟩
  | 81 => ⟨S256, .i1⟩
  | 82 => ⟨S256, .i1⟩
  | 83 => ⟨S256, .i32⟩
  | 84 => ⟨S256, .i32⟩
  | 85 => ⟨S256, .i32⟩
  | 86 => ⟨S256, .i32⟩
  | 87 => ⟨S256x1, .i32⟩
  | 88 => ⟨S_, .i32⟩
  | 89 => ⟨S_, .i32⟩
  | 90 => ⟨S256, .i32⟩
  | 91 => ⟨S256, .i32⟩
  | 92 => ⟨S256, .i32⟩
  | 93 => ⟨S_, .i32⟩
  | 94 => ⟨S256, .i32⟩
  | 95 => ⟨S256, .i1⟩
  | 96 => ⟨S256, .i32⟩
  | 97 => ⟨S256, .i32⟩
  | 98 => ⟨S_, .i32⟩
  | 99 => ⟨S256, .i32⟩
  | 100 => ⟨S256, .i1⟩
  | 101 => ⟨S256, .i1⟩
  | 102 => ⟨S_, .i32⟩
  | 103 => ⟨S256, .i32⟩
  | 104 => ⟨S256, .i32⟩
  | 105 => ⟨S256, .i32⟩
  | 106 => ⟨S1x256, .i32⟩
  | 107 => ⟨S256x256, .i32⟩
  | 108 => ⟨S256x256, .i32⟩
  | 109 => ⟨S256x256, .i1⟩
  | 110 => ⟨S256x1, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S256, .i32⟩
  | 118 => ⟨S256, .i32⟩
  | 119 => ⟨S_, .i32⟩
  | 120 => ⟨S256, .i32⟩
  | 121 => ⟨S256, .i1⟩
  | 122 => ⟨S_, .i32⟩
  | 123 => ⟨S256, .i32⟩
  | 124 => ⟨S256, .i1⟩
  | 125 => ⟨S_, .i32⟩
  | 126 => ⟨S_, .i1⟩
  | 127 => ⟨S256, .i1⟩
  | _ => ⟨S5120x16384, .bf16⟩

abbrev hbmTy0_1 (i : Nat) : BufTy := match i % 128 with
  | 0 => ⟨S256, .i1⟩
  | 1 => ⟨S256, .i1⟩
  | 2 => ⟨S256, .i32⟩
  | 3 => ⟨S256, .i32⟩
  | 4 => ⟨S256, .i32⟩
  | 5 => ⟨S1x256, .i32⟩
  | 6 => ⟨S256x256, .i32⟩
  | 7 => ⟨S256x256, .i32⟩
  | 8 => ⟨S256x256, .i32⟩
  | 9 => ⟨S256x256, .i32⟩
  | 10 => ⟨S_, .i32⟩
  | 11 => ⟨S256x256, .i32⟩
  | 12 => ⟨S256x256, .i32⟩
  | 13 => ⟨S_, .i32⟩
  | 14 => ⟨S256x256, .i32⟩
  | 15 => ⟨S256x256, .i1⟩
  | 16 => ⟨S_, .f32⟩
  | 17 => ⟨S_, .f32⟩
  | 18 => ⟨S256x256, .f32⟩
  | 19 => ⟨S256x256, .f32⟩
  | 20 => ⟨S256x256, .f32⟩
  | 21 => ⟨S_, .f32⟩
  | 22 => ⟨S256x256, .f32⟩
  | 23 => ⟨S256x256, .f32⟩
  | 24 => ⟨S256x256, .bf16⟩
  | 25 => ⟨S16384x5120, .bf16⟩
  | 26 => ⟨S5120x8192, .i8⟩
  | 27 => ⟨S5120x2048, .i8⟩
  | 28 => ⟨S5120x512, .i8⟩
  | _ => ⟨S5120x16384, .bf16⟩

abbrev hbmTy (i : Nat) : BufTy := match i / 128 with
  | 0 => hbmTy0_0 i
  | 1 => hbmTy0_1 i
  | _ => ⟨S5120x16384, .bf16⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x4096, .bf16⟩
  | .local _ .vmem, ⟨2, _⟩ => ⟨S256x4096, .bf16⟩
  | .local _ .vmem, ⟨3, _⟩ => ⟨S4096x256, .bf16⟩
  | .local _ .vmem, ⟨4, _⟩ => ⟨S4096x256, .bf16⟩
  | .local _ .vmem, ⟨5, _⟩ => ⟨S256x2048, .i8⟩
  | .local _ .vmem, ⟨6, _⟩ => ⟨S256x2048, .i8⟩
  | .local _ .vmem, ⟨7, _⟩ => ⟨S256x512, .i8⟩
  | .local _ .vmem, ⟨8, _⟩ => ⟨S256x512, .i8⟩
  | .local _ .vmem, ⟨9, _⟩ => ⟨S256x128, .i8⟩
  | .local _ .vmem, ⟨10, _⟩ => ⟨S256x128, .i8⟩
  | .local _ .vmem, ⟨11, _⟩ => ⟨S2x128x128, .i32⟩
  | .local _ .vmem, ⟨12, _⟩ => ⟨S2x128x128, .i32⟩
  | _, _ => ⟨S5120x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v2 : Ref sig .tc := ⟨.hbm, 41, rfl⟩
abbrev main_c_1 : Ref sig .tc := ⟨.hbm, 42, rfl⟩
abbrev main_v3 : Ref sig .tc := ⟨.hbm, 43, rfl⟩
abbrev main_v4 : Ref sig .tc := ⟨.hbm, 44, rfl⟩
abbrev main_c_2 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v5 : Ref sig .tc := ⟨.hbm, 62, rfl⟩
abbrev main_v6 : Ref sig .tc := ⟨.hbm, 63, rfl⟩
abbrev main_c_3 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_v5 : Ref sig .tc := ⟨.hbm, 73, rfl⟩
abbrev main_call3_v6 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_c_3 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_v7 : Ref sig .tc := ⟨.hbm, 85, rfl⟩
abbrev main_v8 : Ref sig .tc := ⟨.hbm, 86, rfl⟩
abbrev main_v9 : Ref sig .tc := ⟨.hbm, 87, rfl⟩
abbrev main_c_4 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_c : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_0 : Ref sig .tc := ⟨.hbm, 102, rfl⟩
abbrev main_call4_v12 : Ref sig .tc := ⟨.hbm, 103, rfl⟩
abbrev main_call4_v13 : Ref sig .tc := ⟨.hbm, 104, rfl⟩
abbrev main_v10 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_c_5 : Ref sig .tc := ⟨.hbm, 111, rfl⟩
abbrev main_call5_v0 : Ref sig .tc := ⟨.hbm, 112, rfl⟩
abbrev main_call5_c : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_c_1 : Ref sig .tc := ⟨.hbm, 119, rfl⟩
abbrev main_call5_v5 : Ref sig .tc := ⟨.hbm, 120, rfl⟩
abbrev main_call5_v6 : Ref sig .tc := ⟨.hbm, 121, rfl⟩
abbrev main_call5_c_2 : Ref sig .tc := ⟨.hbm, 122, rfl⟩
abbrev main_call5_v7 : Ref sig .tc := ⟨.hbm, 123, rfl⟩
abbrev main_call5_v8 : Ref sig .tc := ⟨.hbm, 124, rfl⟩
abbrev main_call5_c_3 : Ref sig .tc := ⟨.hbm, 125, rfl⟩
abbrev main_call5_v9 : Ref sig .tc := ⟨.hbm, 126, rfl⟩
abbrev main_call5_v10 : Ref sig .tc := ⟨.hbm, 127, rfl⟩
abbrev main_call5_v11 : Ref sig .tc := ⟨.hbm, 128, rfl⟩
abbrev main_call5_v12 : Ref sig .tc := ⟨.hbm, 129, rfl⟩
abbrev main_call5_v13 : Ref sig .tc := ⟨.hbm, 130, rfl⟩
abbrev main_call5_v14 : Ref sig .tc := ⟨.hbm, 131, rfl⟩
abbrev main_v16 : Ref sig .tc := ⟨.hbm, 132, rfl⟩
abbrev main_v17 : Ref sig .tc := ⟨.hbm, 133, rfl⟩
abbrev main_v18 : Ref sig .tc := ⟨.hbm, 134, rfl⟩
abbrev main_v19 : Ref sig .tc := ⟨.hbm, 135, rfl⟩
abbrev main_v20 : Ref sig .tc := ⟨.hbm, 136, rfl⟩
abbrev main_v21 : Ref sig .tc := ⟨.hbm, 137, rfl⟩
abbrev main_c_6 : Ref sig .tc := ⟨.hbm, 138, rfl⟩
abbrev main_v22 : Ref sig .tc := ⟨.hbm, 139, rfl⟩
abbrev main_v23 : Ref sig .tc := ⟨.hbm, 140, rfl⟩
abbrev main_c_7 : Ref sig .tc := ⟨.hbm, 141, rfl⟩
abbrev main_v24 : Ref sig .tc := ⟨.hbm, 142, rfl⟩
abbrev main_v25 : Ref sig .tc := ⟨.hbm, 143, rfl⟩
abbrev main_cst : Ref sig .tc := ⟨.hbm, 144, rfl⟩
abbrev main_cst_8 : Ref sig .tc := ⟨.hbm, 145, rfl⟩
abbrev main_call6_v0 : Ref sig .tc := ⟨.hbm, 146, rfl⟩
abbrev main_call6_v1 : Ref sig .tc := ⟨.hbm, 147, rfl⟩
abbrev main_v26 : Ref sig .tc := ⟨.hbm, 148, rfl⟩
abbrev main_cst_9 : Ref sig .tc := ⟨.hbm, 149, rfl⟩
abbrev main_call7_v0 : Ref sig .tc := ⟨.hbm, 150, rfl⟩
abbrev main_v27 : Ref sig .tc := ⟨.hbm, 151, rfl⟩
abbrev main_v28 : Ref sig .tc := ⟨.hbm, 152, rfl⟩
abbrev main_v29_0 : Ref sig .tc := ⟨.hbm, 153, rfl⟩
abbrev main_v29_1 : Ref sig .tc := ⟨.hbm, 154, rfl⟩
abbrev main_v29_2 : Ref sig .tc := ⟨.hbm, 155, rfl⟩
abbrev main_v29_3 : Ref sig .tc := ⟨.hbm, 156, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![20, 4], ![false, false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let c0_i32_69 : BitVec 32 := 0#32
  let v171 : BitVec 32 := Scalar.addi v170 c0_i32_69
  v171
def k0_off1 (k0_t1 : Fin k0_t1_loop.trips) (c0_i32_69 : BitVec 32) : Fin 2 → Nat :=
  let c0_70 : Index := 0#32
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let v171 : BitVec 32 := Scalar.addi v170 c0_i32_69
  let v172 : BitVec 32 := v171
  let v173 : Index := Scalar.indexCast v172
  ![0, v173.toNat]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let c0_i32_69 : BitVec 32 := 0#32
  let v171 : BitVec 32 := Scalar.addi v170 c0_i32_69
  v171
def k0_off2 (k0_t1 : Fin k0_t1_loop.trips) (c0_i32_69 : BitVec 32) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let v171 : BitVec 32 := Scalar.addi v170 c0_i32_69
  let v1313 : BitVec 32 := v171
  let v1314 : Index := Scalar.indexCast v1313
  let c0_466 : Index := 0#32
  ![v1314.toNat, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_467 : BitVec 32 := 4#32
  let v1316 : BitVec 32 := Scalar.muli arg10 c4_i32_467
  let c0_i32_468 : BitVec 32 := 0#32
  let v1317 : BitVec 32 := Scalar.addi v1316 c0_i32_468
  let c8_i32_469 : BitVec 32 := 8#32
  let v1318 : BitVec 32 := Scalar.muli v1317 c8_i32_469
  v1318
def k0_off3 (k0_t1 : Fin k0_t1_loop.trips) (c0_i32_468 : BitVec 32) : Fin 3 → Nat :=
  let c0_470 : Index := 0#32
  let c0_i32 : BitVec 32 := 0#32
  let c1_i32 : BitVec 32 := 1#32
  let arg10 : BitVec 32 := Scf.iv c0_i32 c1_i32 k0_t1
  let c4_i32_467 : BitVec 32 := 4#32
  let v1316 : BitVec 32 := Scalar.muli arg10 c4_i32_467
  let v1317 : BitVec 32 := Scalar.addi v1316 c0_i32_468
  let c8_i32_469 : BitVec 32 := 8#32
  let v1318 : BitVec 32 := Scalar.muli v1317 c8_i32_469
  let v1319 : BitVec 32 := v1318
  let v1320 : Index := Scalar.indexCast v1319
  let c0_471 : Index := 0#32
  ![0, v1320.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let c0_i32_69 : BitVec 32 := 0#32
  let v171 : BitVec 32 := Scalar.addi v170 c0_i32_69
  v171
def k0_off4 (k0_t1 : Fin k0_t1_loop.trips) (c0_i32_69 : BitVec 32) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v170 : BitVec 32 := Scalar.muli arg10 c1024_i32
  let v171 : BitVec 32 := Scalar.addi v170 c0_i32_69
  let v2463 : BitVec 32 := v171
  let v2464 : Index := Scalar.indexCast v2463
  let c128_900 : Index := 128#32
  ![v2464.toNat, 128]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_901 : BitVec 32 := 4#32
  let v2466 : BitVec 32 := Scalar.muli arg10 c4_i32_901
  let c0_i32_902 : BitVec 32 := 0#32
  let v2467 : BitVec 32 := Scalar.addi v2466 c0_i32_902
  let c8_i32_903 : BitVec 32 := 8#32
  let v2468 : BitVec 32 := Scalar.muli v2467 c8_i32_903
  v2468
def k0_off5 (k0_t1 : Fin k0_t1_loop.trips) (c0_i32_902 : BitVec 32) : Fin 3 → Nat :=
  let c1_904 : Index := 1#32
  let c0_i32 : BitVec 32 := 0#32
  let c1_i32 : BitVec 32 := 1#32
  let arg10 : BitVec 32 := Scf.iv c0_i32 c1_i32 k0_t1
  let c4_i32_901 : BitVec 32 := 4#32
  let v2466 : BitVec 32 := Scalar.muli arg10 c4_i32_901
  let v2467 : BitVec 32 := Scalar.addi v2466 c0_i32_902
  let c8_i32_903 : BitVec 32 := 8#32
  let v2468 : BitVec 32 := Scalar.muli v2467 c8_i32_903
  let v2469 : BitVec 32 := v2468
  let v2470 : Index := Scalar.indexCast v2469
  let c0_905 : Index := 0#32
  ![1, v2470.toNat, 0]
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_908 : BitVec 32 := 1024#32
  let v2478 : BitVec 32 := Scalar.muli arg10 c1024_i32_908
  let c256_i32_909 : BitVec 32 := 256#32
  let v2479 : BitVec 32 := Scalar.addi v2478 c256_i32_909
  v2479
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_908 : BitVec 32 := 1024#32
  let v2478 : BitVec 32 := Scalar.muli arg10 c1024_i32_908
  let c256_i32_909 : BitVec 32 := 256#32
  let v2479 : BitVec 32 := Scalar.addi v2478 c256_i32_909
  v2479
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_1341 : BitVec 32 := 4#32
  let v3624 : BitVec 32 := Scalar.muli arg10 c4_i32_1341
  let c1_i32_1342 : BitVec 32 := 1#32
  let v3625 : BitVec 32 := Scalar.addi v3624 c1_i32_1342
  let c8_i32_1343 : BitVec 32 := 8#32
  let v3626 : BitVec 32 := Scalar.muli v3625 c8_i32_1343
  v3626
def k0_mult9 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_908 : BitVec 32 := 1024#32
  let v2478 : BitVec 32 := Scalar.muli arg10 c1024_i32_908
  let c256_i32_909 : BitVec 32 := 256#32
  let v2479 : BitVec 32 := Scalar.addi v2478 c256_i32_909
  v2479
def k0_mult10 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_1775 : BitVec 32 := 4#32
  let v4774 : BitVec 32 := Scalar.muli arg10 c4_i32_1775
  let c1_i32_1776 : BitVec 32 := 1#32
  let v4775 : BitVec 32 := Scalar.addi v4774 c1_i32_1776
  let c8_i32_1777 : BitVec 32 := 8#32
  let v4776 : BitVec 32 := Scalar.muli v4775 c8_i32_1777
  v4776
def k0_mult11 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_1782 : BitVec 32 := 1024#32
  let v4786 : BitVec 32 := Scalar.muli arg10 c1024_i32_1782
  let c512_i32_1783 : BitVec 32 := 512#32
  let v4787 : BitVec 32 := Scalar.addi v4786 c512_i32_1783
  v4787
def k0_mult12 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_1782 : BitVec 32 := 1024#32
  let v4786 : BitVec 32 := Scalar.muli arg10 c1024_i32_1782
  let c512_i32_1783 : BitVec 32 := 512#32
  let v4787 : BitVec 32 := Scalar.addi v4786 c512_i32_1783
  v4787
def k0_mult13 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_2215 : BitVec 32 := 4#32
  let v5932 : BitVec 32 := Scalar.muli arg10 c4_i32_2215
  let c2_i32_2216 : BitVec 32 := 2#32
  let v5933 : BitVec 32 := Scalar.addi v5932 c2_i32_2216
  let c8_i32_2217 : BitVec 32 := 8#32
  let v5934 : BitVec 32 := Scalar.muli v5933 c8_i32_2217
  v5934
def k0_mult14 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_1782 : BitVec 32 := 1024#32
  let v4786 : BitVec 32 := Scalar.muli arg10 c1024_i32_1782
  let c512_i32_1783 : BitVec 32 := 512#32
  let v4787 : BitVec 32 := Scalar.addi v4786 c512_i32_1783
  v4787
def k0_mult15 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_2649 : BitVec 32 := 4#32
  let v7082 : BitVec 32 := Scalar.muli arg10 c4_i32_2649
  let c2_i32_2650 : BitVec 32 := 2#32
  let v7083 : BitVec 32 := Scalar.addi v7082 c2_i32_2650
  let c8_i32_2651 : BitVec 32 := 8#32
  let v7084 : BitVec 32 := Scalar.muli v7083 c8_i32_2651
  v7084
def k0_mult16 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_2656 : BitVec 32 := 1024#32
  let v7094 : BitVec 32 := Scalar.muli arg10 c1024_i32_2656
  let c768_i32 : BitVec 32 := 768#32
  let v7095 : BitVec 32 := Scalar.addi v7094 c768_i32
  v7095
def k0_mult17 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_2656 : BitVec 32 := 1024#32
  let v7094 : BitVec 32 := Scalar.muli arg10 c1024_i32_2656
  let c768_i32 : BitVec 32 := 768#32
  let v7095 : BitVec 32 := Scalar.addi v7094 c768_i32
  v7095
def k0_mult18 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_3088 : BitVec 32 := 4#32
  let v8240 : BitVec 32 := Scalar.muli arg10 c4_i32_3088
  let c3_i32_3089 : BitVec 32 := 3#32
  let v8241 : BitVec 32 := Scalar.addi v8240 c3_i32_3089
  let c8_i32_3090 : BitVec 32 := 8#32
  let v8242 : BitVec 32 := Scalar.muli v8241 c8_i32_3090
  v8242
def k0_mult19 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32_2656 : BitVec 32 := 1024#32
  let v7094 : BitVec 32 := Scalar.muli arg10 c1024_i32_2656
  let c768_i32 : BitVec 32 := 768#32
  let v7095 : BitVec 32 := Scalar.addi v7094 c768_i32
  v7095
def k0_mult20 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_3522 : BitVec 32 := 4#32
  let v9390 : BitVec 32 := Scalar.muli arg10 c4_i32_3522
  let c3_i32_3523 : BitVec 32 := 3#32
  let v9391 : BitVec 32 := Scalar.addi v9390 c3_i32_3523
  let c8_i32_3524 : BitVec 32 := 8#32
  let v9392 : BitVec 32 := Scalar.muli v9391 c8_i32_3524
  v9392
def k0_mult21 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3536 : BitVec 32 := 512#32
  let v9429 : BitVec 32 := Scalar.muli arg10 c512_i32_3536
  let c0_i32_3537 : BitVec 32 := 0#32
  let v9430 : BitVec 32 := Scalar.addi v9429 c0_i32_3537
  v9430
def k0_off6 (k0_t1 : Fin k0_t1_loop.trips) (c0_i32_3537 : BitVec 32) : Fin 2 → Nat :=
  let c0_3538 : Index := 0#32
  let c0_i32 : BitVec 32 := 0#32
  let c1_i32 : BitVec 32 := 1#32
  let arg10 : BitVec 32 := Scf.iv c0_i32 c1_i32 k0_t1
  let c512_i32_3536 : BitVec 32 := 512#32
  let v9429 : BitVec 32 := Scalar.muli arg10 c512_i32_3536
  let v9430 : BitVec 32 := Scalar.addi v9429 c0_i32_3537
  let v9431 : BitVec 32 := v9430
  let v9432 : Index := Scalar.indexCast v9431
  ![0, v9432.toNat]
def k0_mult22 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3548 : BitVec 32 := 512#32
  let v9459 : BitVec 32 := Scalar.muli arg10 c512_i32_3548
  let c128_i32_3549 : BitVec 32 := 128#32
  let v9460 : BitVec 32 := Scalar.addi v9459 c128_i32_3549
  v9460
def k0_mult23 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3560 : BitVec 32 := 512#32
  let v9489 : BitVec 32 := Scalar.muli arg10 c512_i32_3560
  let c256_i32_3561 : BitVec 32 := 256#32
  let v9490 : BitVec 32 := Scalar.addi v9489 c256_i32_3561
  v9490
def k0_mult24 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3572 : BitVec 32 := 512#32
  let v9519 : BitVec 32 := Scalar.muli arg10 c512_i32_3572
  let c384_i32 : BitVec 32 := 384#32
  let v9520 : BitVec 32 := Scalar.addi v9519 c384_i32
  v9520
def k0_mult25 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3583 : BitVec 32 := 512#32
  let v9551 : BitVec 32 := Scalar.muli arg10 c512_i32_3583
  let c0_i32_3584 : BitVec 32 := 0#32
  let v9552 : BitVec 32 := Scalar.addi v9551 c0_i32_3584
  v9552
def k0_off7 (k0_t1 : Fin k0_t1_loop.trips) (c0_i32_3584 : BitVec 32) : Fin 2 → Nat :=
  let c128_3585 : Index := 128#32
  let c0_i32 : BitVec 32 := 0#32
  let c1_i32 : BitVec 32 := 1#32
  let arg10 : BitVec 32 := Scf.iv c0_i32 c1_i32 k0_t1
  let c512_i32_3583 : BitVec 32 := 512#32
  let v9551 : BitVec 32 := Scalar.muli arg10 c512_i32_3583
  let v9552 : BitVec 32 := Scalar.addi v9551 c0_i32_3584
  let v9553 : BitVec 32 := v9552
  let v9554 : Index := Scalar.indexCast v9553
  ![128, v9554.toNat]
def k0_mult26 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3595 : BitVec 32 := 512#32
  let v9581 : BitVec 32 := Scalar.muli arg10 c512_i32_3595
  let c128_i32_3596 : BitVec 32 := 128#32
  let v9582 : BitVec 32 := Scalar.addi v9581 c128_i32_3596
  v9582
def k0_mult27 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3607 : BitVec 32 := 512#32
  let v9611 : BitVec 32 := Scalar.muli arg10 c512_i32_3607
  let c256_i32_3608 : BitVec 32 := 256#32
  let v9612 : BitVec 32 := Scalar.addi v9611 c256_i32_3608
  v9612
def k0_mult28 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_3619 : BitVec 32 := 512#32
  let v9641 : BitVec 32 := Scalar.muli arg10 c512_i32_3619
  let c384_i32_3620 : BitVec 32 := 384#32
  let v9642 : BitVec 32 := Scalar.addi v9641 c384_i32_3620
  v9642
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QuantisedWIdeal.lean ====
abbrev S5120x16384 : Shape := ⟨2, ![5120, 16384]⟩
abbrev S5120x512x32 : Shape := ⟨3, ![5120, 512, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S5120x512 : Shape := ⟨2, ![5120, 512]⟩
abbrev S252 : Shape := ⟨1, ![252]⟩
abbrev S5120x512x1 : Shape := ⟨3, ![5120, 512, 1]⟩
abbrev S1x1x252 : Shape := ⟨3, ![1, 1, 252]⟩
abbrev S5120x512x252 : Shape := ⟨3, ![5120, 512, 252]⟩
abbrev S5120x2048x8 : Shape := ⟨3, ![5120, 2048, 8]⟩
abbrev S8 : Shape := ⟨1, ![8]⟩
abbrev S1x1x8 : Shape := ⟨3, ![1, 1, 8]⟩
abbrev S5120x2048 : Shape := ⟨2, ![5120, 2048]⟩
abbrev S5120x8192x2 : Shape := ⟨3, ![5120, 8192, 2]⟩
abbrev S5120x8192x1 : Shape := ⟨3, ![5120, 8192, 1]⟩
abbrev S5120x8192 : Shape := ⟨2, ![5120, 8192]⟩

abbrev nBuf : Space → Nat
  | .hbm => 137
  | .vmem => 0
  | .smem => 0
  | _ => 0

abbrev hbmTy0_0 (i : Nat) : BufTy := match i % 128 with
  | 0 => ⟨S5120x16384, .bf16⟩
  | 1 => ⟨S5120x512x32, .bf16⟩
  | 2 => ⟨S32, .i32⟩
  | 3 => ⟨S32x1, .i32⟩
  | 4 => ⟨S1x32, .i32⟩
  | 5 => ⟨S32x32, .i32⟩
  | 6 => ⟨S32x32, .i32⟩
  | 7 => ⟨S32x32, .i32⟩
  | 8 => ⟨S32x32, .i32⟩
  | 9 => ⟨S_, .i32⟩
  | 10 => ⟨S32x32, .i32⟩
  | 11 => ⟨S32x32, .i32⟩
  | 12 => ⟨S_, .i32⟩
  | 13 => ⟨S32x32, .i32⟩
  | 14 => ⟨S32x32, .i1⟩
  | 15 => ⟨S_, .f32⟩
  | 16 => ⟨S_, .f32⟩
  | 17 => ⟨S32x32, .f32⟩
  | 18 => ⟨S32x32, .f32⟩
  | 19 => ⟨S32x32, .f32⟩
  | 20 => ⟨S32x32, .bf16⟩
  | 21 => ⟨S5120x512x32, .f32⟩
  | 22 => ⟨S5120x512x32, .f32⟩
  | 23 => ⟨S_, .f32⟩
  | 24 => ⟨S5120x512, .f32⟩
  | 25 => ⟨S_, .f32⟩
  | 26 => ⟨S5120x512, .f32⟩
  | 27 => ⟨S5120x512, .f32⟩
  | 28 => ⟨S5120x512, .f32⟩
  | 29 => ⟨S_, .f32⟩
  | 30 => ⟨S5120x512, .f32⟩
  | 31 => ⟨S5120x512, .f32⟩
  | 32 => ⟨S_, .f32⟩
  | 33 => ⟨S5120x512, .f32⟩
  | 34 => ⟨S5120x512, .f32⟩
  | 35 => ⟨S252, .i32⟩
  | 36 => ⟨S_, .i32⟩
  | 37 => ⟨S252, .i32⟩
  | 38 => ⟨S252, .i32⟩
  | 39 => ⟨S252, .f32⟩
  | 40 => ⟨S_, .f32⟩
  | 41 => ⟨S252, .f32⟩
  | 42 => ⟨S252, .f32⟩
  | 43 => ⟨S5120x512x1, .f32⟩
  | 44 => ⟨S1x1x252, .f32⟩
  | 45 => ⟨S5120x512x252, .f32⟩
  | 46 => ⟨S5120x512x252, .f32⟩
  | 47 => ⟨S5120x512x252, .i1⟩
  | 48 => ⟨S5120x512x252, .i32⟩
  | 49 => ⟨S_, .i32⟩
  | 50 => ⟨S5120x512, .i32⟩
  | 51 => ⟨S_, .f32⟩
  | 52 => ⟨S5120x512, .f32⟩
  | 53 => ⟨S5120x512, .i1⟩
  | 54 => ⟨S_, .i32⟩
  | 55 => ⟨S5120x512, .i32⟩
  | 56 => ⟨S5120x512, .i32⟩
  | 57 => ⟨S_, .i32⟩
  | 58 => ⟨S_, .i32⟩
  | 59 => ⟨S5120x512, .i32⟩
  | 60 => ⟨S5120x512, .i32⟩
  | 61 => ⟨S_, .f32⟩
  | 62 => ⟨S5120x512x32, .f32⟩
  | 63 => ⟨S5120x512x32, .f32⟩
  | 64 => ⟨S5120x512, .i32⟩
  | 65 => ⟨S5120x512, .f32⟩
  | 66 => ⟨S_, .f32⟩
  | 67 => ⟨S5120x512, .f32⟩
  | 68 => ⟨S5120x512, .f32⟩
  | 69 => ⟨S5120x512x1, .f32⟩
  | 70 => ⟨S5120x512x32, .f32⟩
  | 71 => ⟨S5120x512x32, .f32⟩
  | 72 => ⟨S5120x512x32, .f32⟩
  | 73 => ⟨S_, .f32⟩
  | 74 => ⟨S5120x512x32, .f32⟩
  | 75 => ⟨S5120x512x32, .i1⟩
  | 76 => ⟨S5120x2048x8, .i1⟩
  | 77 => ⟨S5120x2048x8, .i32⟩
  | 78 => ⟨S8, .i32⟩
  | 79 => ⟨S1x1x8, .i32⟩
  | 80 => ⟨S5120x2048x8, .i32⟩
  | 81 => ⟨S5120x2048x8, .i32⟩
  | 82 => ⟨S_, .i32⟩
  | 83 => ⟨S5120x2048, .i32⟩
  | 84 => ⟨S5120x2048, .i8⟩
  | 85 => ⟨S_, .i32⟩
  | 86 => ⟨S5120x512, .i32⟩
  | 87 => ⟨S5120x512, .i32⟩
  | 88 => ⟨S5120x512, .i8⟩
  | 89 => ⟨S_, .f32⟩
  | 90 => ⟨S_, .f32⟩
  | 91 => ⟨S_, .f32⟩
  | 92 => ⟨S5120x512x32, .f32⟩
  | 93 => ⟨S5120x512x32, .f32⟩
  | 94 => ⟨S_, .f32⟩
  | 95 => ⟨S5120x512x32, .f32⟩
  | 96 => ⟨S5120x512x32, .f32⟩
  | 97 => ⟨S5120x512x32, .f32⟩
  | 98 => ⟨S_, .f32⟩
  | 99 => ⟨S5120x512x32, .f32⟩
  | 100 => ⟨S5120x512x32, .i1⟩
  | 101 => ⟨S_, .f32⟩
  | 102 => ⟨S5120x512x32, .f32⟩
  | 103 => ⟨S5120x512x32, .f32⟩
  | 104 => ⟨S_, .f32⟩
  | 105 => ⟨S5120x512x32, .f32⟩
  | 106 => ⟨S5120x512x32, .i1⟩
  | 107 => ⟨S_, .f32⟩
  | 108 => ⟨S5120x512x32, .f32⟩
  | 109 => ⟨S5120x512x32, .f32⟩
  | 110 => ⟨S_, .f32⟩
  | 111 => ⟨S5120x512x32, .f32⟩
  | 112 => ⟨S5120x512x32, .f32⟩
  | 113 => ⟨S_, .f32⟩
  | 114 => ⟨S5120x512x32, .f32⟩
  | 115 => ⟨S5120x512x32, .f32⟩
  | 116 => ⟨S5120x512x32, .f32⟩
  | 117 => ⟨S5120x512x32, .f32⟩
  | 118 => ⟨S5120x512x32, .i32⟩
  | 119 => ⟨S_, .f32⟩
  | 120 => ⟨S5120x512x32, .f32⟩
  | 121 => ⟨S5120x512x32, .i1⟩
  | 122 => ⟨S5120x512x32, .i32⟩
  | 123 => ⟨S_, .i32⟩
  | 124 => ⟨S5120x512x32, .i32⟩
  | 125 => ⟨S5120x512x32, .i32⟩
  | 126 => ⟨S5120x512x32, .i32⟩
  | 127 => ⟨S5120x8192x2, .i32⟩
  | _ => ⟨S5120x16384, .bf16⟩

abbrev hbmTy0_1 (i : Nat) : BufTy := match i % 128 with
  | 0 => ⟨S5120x8192x1, .i32⟩
  | 1 => ⟨S5120x8192, .i32⟩
  | 2 => ⟨S5120x8192x1, .i32⟩
  | 3 => ⟨S5120x8192, .i32⟩
  | 4 => ⟨S_, .i32⟩
  | 5 => ⟨S5120x8192, .i32⟩
  | 6 => ⟨S5120x8192, .i32⟩
  | 7 => ⟨S5120x8192, .i32⟩
  | 8 => ⟨S5120x8192, .i8⟩
  | _ => ⟨S5120x16384, .bf16⟩

abbrev hbmTy (i : Nat) : BufTy := match i / 128 with
  | 0 => hbmTy0_0 i
  | 1 => hbmTy0_1 i
  | _ => ⟨S5120x16384, .bf16⟩

abbrev bufTy : (tb : Table) → Fin (tcTables nBuf tb) → BufTy
  | .hbm, ⟨i, _⟩ => hbmTy i
  | _, _ => ⟨S5120x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_c_10 : Ref sig .tc := ⟨.hbm, 54, rfl⟩
abbrev main_v39 : Ref sig .tc := ⟨.hbm, 55, rfl⟩
abbrev main_v40 : Ref sig .tc := ⟨.hbm, 56, rfl⟩
abbrev main_c_11 : Ref sig .tc := ⟨.hbm, 57, rfl⟩
abbrev main_call1_v0 : Ref sig .tc := ⟨.hbm, 58, rfl⟩
abbrev main_call1_v1 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_15 : Ref sig .tc := ⟨.hbm, 82, rfl⟩
abbrev main_v60 : Ref sig .tc := ⟨.hbm, 83, rfl⟩
abbrev main_v61 : Ref sig .tc := ⟨.hbm, 84, rfl⟩
abbrev main_c_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_cst_18 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v65 : Ref sig .tc := ⟨.hbm, 96, rfl⟩
abbrev main_v66 : Ref sig .tc := ⟨.hbm, 97, rfl⟩
abbrev main_cst_19 : Ref sig .tc := ⟨.hbm, 98, rfl⟩
abbrev main_v67 : Ref sig .tc := ⟨.hbm, 99, rfl⟩
abbrev main_v68 : Ref sig .tc := ⟨.hbm, 100, rfl⟩
abbrev main_cst_20 : Ref sig .tc := ⟨.hbm, 101, rfl⟩
abbrev main_v69 : Ref sig .tc := ⟨.hbm, 102, rfl⟩
abbrev main_v70 : Ref sig .tc := ⟨.hbm, 103, rfl⟩
abbrev main_cst_21 : Ref sig .tc := ⟨.hbm, 104, rfl⟩
abbrev main_v71 : Ref sig .tc := ⟨.hbm, 105, rfl⟩
abbrev main_v72 : Ref sig .tc := ⟨.hbm, 106, rfl⟩
abbrev main_cst_22 : Ref sig .tc := ⟨.hbm, 107, rfl⟩
abbrev main_v73 : Ref sig .tc := ⟨.hbm, 108, rfl⟩
abbrev main_v74 : Ref sig .tc := ⟨.hbm, 109, rfl⟩
abbrev main_cst_23 : Ref sig .tc := ⟨.hbm, 110, rfl⟩
abbrev main_v75 : Ref sig .tc := ⟨.hbm, 111, rfl⟩
abbrev main_v76 : Ref sig .tc := ⟨.hbm, 112, rfl⟩
abbrev main_cst_24 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_25 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_26 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_27 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]
-- ==== Proof.MatmulValue.lean ====
/- The value of the product kernel. At every point of the grid (3 × 10 blocks of the result, 8 slices of the contracted
   axis) the body adds one slice's product to the accumulator it carries, starts from zero at the first slice and writes
   the accumulator out at the last. So a block of the result holds, at an index, eight sums of 2048 products, which are
   the 16384 products of the reference's contraction in order: `result_eq`. -/
module

public import proofs.«01_k».proof.Proof.Gen.KernelIdeal.Value
public import proofs.«01_k».proof.Proof.Gen.ReferenceIdeal.Run
public import Idealize.ShloMosaic.Lib.ValueIdx
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MatmulValue

open Cert.KernelIdeal Cert.KernelIdeal.Gen Idealize.ShloMosaic Idealize.ShloMosaic.TcCoe Idealize.SL.Sem
open scoped BigOperators

/-- The block the accumulator starts from is zero. -/
theorem zero_block (j : S1536x512.Idx) : (k0_pay1 (F := Ideal)) j = 0 := by
  unfold k0_pay1
  pointwise

/-- What one point leaves in the accumulator: what was there, and the slice's product. -/
theorem step_block (acc : FVec Ideal S1536x512 .f32) (a : FVec Ideal S1536x2048 .bf16)
    (b : FVec Ideal S2048x512 .bf16) (j : S1536x512.Idx) :
    k0_pay2 (F := Ideal) acc a b j = acc j + ∑ k : Fin 2048, a (ix2 (j 0) k) * b (ix2 k (j 1)) := by
  unfold k0_pay2
  pointwise

/-- Rounding to bf16 is the identity on the reals. -/
theorem out_block (acc : FVec Ideal S1536x512 .f32) (j : S1536x512.Idx) :
    k0_pay3 (F := Ideal) acc j = acc j := by
  unfold k0_pay3
  pointwise

/-- The reference's term: the contraction on the host, rounded to bf16. -/
def ref (a : FVec Ideal S4608x16384 .bf16) (b : FVec Ideal S16384x5120 .bf16) (h : FTy.bits .bf16 < FTy.bits .f32) :
    FVec Ideal S4608x5120 .bf16 :=
  truncf .bf16 (Host.dotGeneral Cert.ReferenceIdeal.dot_S4608x16384_S16384x5120_S4608x5120_1_0_0_1_n_n none a b) h

/-- The reference at an index: the sum of the 16384 products. -/
theorem reference_apply (h : FTy.bits .bf16 < FTy.bits .f32) (a : FVec Ideal S4608x16384 .bf16)
    (b : FVec Ideal S16384x5120 .bf16) (i : S4608x5120.Idx) :
    ref a b h i
      = ∑ k : Fin 16384, a (ix2 (i 0) k) * b (ix2 k (i 1)) := by
  unfold ref
  pointwise

variable (m : (ℓ : Loc nD τ sig) → Buf (Elt Ideal) ℓ)

/-- The block of the left operand at a point. -/
def lhsAt (c : Dev nD) (t : Fin cfg0.N) : FVec Ideal S1536x2048 .bf16 := iblk m c 0 t

/-- The block of the right operand at a point. -/
def rhsAt (c : Dev nD) (t : Fin cfg0.N) : FVec Ideal S2048x512 .bf16 := iblk m c 1 t

/-- The accumulator at a point that writes back: the eight slices' products, summed. -/
theorem acc_eq (c : Dev nD) (t : Fin cfg0.N) (hf : t.val % 8 = 7) (j : S1536x512.Idx) :
    (outsAt0 m c t.val t.isLt).2 j
      = ∑ s : Fin 8, ∑ k : Fin 2048,
          lhsAt m c ⟨8 * (t.val / 8) + s.val, Pipeline.run_point_lt_of_flush t hf s⟩ (ix2 (j 0) k)
          * rhsAt m c ⟨8 * (t.val / 8) + s.val, Pipeline.run_point_lt_of_flush t hf s⟩ (ix2 k (j 1)) := by
  rw [Pipeline.eq_sum_fin_of_reset_step_apply_of_flush (fun n h => (outsAt0 m c n h).2) 8 (fun _ => 0)
    (fun t j => ∑ k : Fin 2048, lhsAt m c t (ix2 (j 0) k) * rhsAt m c t (ix2 k (j 1)))
    (fun t h j => by
      rw [outsAt0_A m c t h (by omega)]; frame_out; rw [step_block, zero_block]; rfl)
    (fun t h j => by
      by_cases h7 : t.val % 8 = 7
      · rw [outsAt0_C m c t h h7]; frame_out; rw [read_unread_whole, step_block]; rfl
      · rw [outsAt0_B m c t h h7]; frame_out; rw [read_unread_whole, step_block]; rfl) t hf j, zero_add]

/-- What is written back there is the accumulator. -/
theorem out_eq (c : Dev nD) (t : Fin cfg0.N) (hf : t.val % 8 = 7) (j : S1536x512.Idx) :
    (outsAt0 m c t.val t.isLt).1 j = (outsAt0 m c t.val t.isLt).2 j := by
  rw [outsAt0_C m c t (by omega) hf]
  frame_out
  rw [out_block]

/-- The block of the left operand at a point, at an index: the row of its result block, the slice's columns. -/
theorem lhs_index : ∀ t : Fin grid0.N, win0_0.index t = ![t.val / 80, t.val % 8] := by decide +kernel

/-- The block of the right operand. -/
theorem rhs_index : ∀ t : Fin grid0.N, win0_1.index t = ![t.val % 8, t.val / 8 % 10] := by decide +kernel

/-- The block of the result. -/
theorem out_index : ∀ t : Fin grid0.N, win0_2.index t = ![t.val / 80, t.val / 8 % 10] := by decide +kernel

/-- THE RESULT: the array the kernel leaves is the reference's contraction, rounded. -/
theorem result_eq (h : FTy.bits .bf16 < FTy.bits .f32) (c : Dev nD) :
    (dats m 0 c).arrAt 2 cfg0.N
      = ref (m ((c : Thread nD τ).loc main_arg0)) (m ((c : Thread nD τ).loc main_arg1)) h := by
  refine (dats m 0 c).arrAt_eq_of_covers 2 _ (by decide +kernel) fun t hf y => ?_
  have h7 : t.val % 8 = 7 := (flush0_2 t).mp hf
  blk_simp
  rw [after0_2]
  refine (out_eq m c t h7 y).trans ((acc_eq m c t h7 y).trans ?_)
  refine Eq.trans ?_ (reference_apply h _ _ _).symm
  refine Fin.sum_mul_add_congr fun s k hl => ?_
  unfold lhsAt rhsAt
  congr 1
  · blk_ext [iblk, V, lhs_index, out_index]
  · blk_ext [iblk, V, rhs_index, out_index]

end Cert.MatmulValue

end
-- ==== Proof.Tile.lean ====
/- What the quantiser's body computes of one rotated tile, as vectors: the block's 32 rotated values are 32 slices of 8 rows;
   `codeV` is the exponent code of each of the 8 × 128 blocks and `maskV` the 32-bit word of those of its values that
   are not clipped. The operations are the kernel's, in its order, at any reading of the floats. -/
module

public import proofs.«01_k».proof.Defs
public import Idealize.ShloMosaic.Lib.Pointwise

@[expose] public section

noncomputable section

namespace Cert.Tile

open Idealize.ShloMosaic

abbrev T256 : Shape := ⟨2, ![256, 256]⟩
abbrev T128 : Shape := ⟨2, ![256, 128]⟩
abbrev T8 : Shape := ⟨2, ![8, 128]⟩

/-- A two-axis index by its coordinates' values. -/
theorem idx2_ext {n m : ℕ} {x y : (⟨2, ![n, m]⟩ : Shape).Idx} (h0 : (x 0).val = (y 0).val) (h1 : (x 1).val = (y 1).val) : x = y :=
  funext fun a => match a with | ⟨0, _⟩ => Fin.ext h0 | ⟨1, _⟩ => Fin.ext h1

/-- A three-axis index by its coordinates' values. -/
theorem idx3_ext {n m l : ℕ} {x y : (⟨3, ![n, m, l]⟩ : Shape).Idx} (h0 : (x 0).val = (y 0).val) (h1 : (x 1).val = (y 1).val)
    (h2 : (x 2).val = (y 2).val) : x = y :=
  funext fun a => match a with | ⟨0, _⟩ => Fin.ext h0 | ⟨1, _⟩ => Fin.ext h1 | ⟨2, _⟩ => Fin.ext h2

variable {F : FTy → Type} [FloatOps F]

theorem slices_group (g : Fin 2) : T256.Slices ![0, g.val * 128] T128 := by
  refine ⟨rfl, fun a => ?_⟩
  have := g.isLt
  match a with
  | ⟨0, _⟩ => exact Nat.le_refl 256
  | ⟨1, _⟩ => show g.val * 128 + 128 ≤ 256; omega

theorem slices_pos (n : ℕ) : T128.Slices ![(n % 32 % 2) * 128 + (n % 32 / 2) * 8, 0] T8 := by
  refine ⟨rfl, fun a => ?_⟩
  match a with
  | ⟨0, _⟩ => show (n % 32 % 2) * 128 + (n % 32 / 2) * 8 + 8 ≤ 256; omega
  | ⟨1, _⟩ => exact Nat.le_refl 128

/-- The columns of group `g` (128 of the tile's 256 rows of the operand). -/
def group (d : FVec F T256 .f32) (g : Fin 2) : FVec F T128 .f32 := extractStridedSlice T128 ![0, g.val * 128] d (slices_group g)

/-- The rotated values at place `n` of each block. -/
def pos (d : FVec F T256 .f32) (g : Fin 2) (n : ℕ) : FVec F T8 .f32 :=
  extractStridedSlice T8 ![(n % 32 % 2) * 128 + (n % 32 / 2) * 8, 0] (group d g) (slices_pos n)

/-- The sum of the squares of places `o … o + 2^n - 1`, as a tree. -/
def sqTree (p : ℕ → FVec F T8 .f32) : ℕ → ℕ → FVec F T8 .f32
  | 0, o => mulf (p o) (p o)
  | n + 1, o => addf (sqTree p n o) (sqTree p n (o + 2 ^ n))

def rmsV (p : ℕ → FVec F T8 .f32) : FVec F T8 .f32 :=
  sqrt (mulf (sqTree p 5 0) (broadcast T8 (Scalar.ofBits .f32 0x3C800000#32)))

def ampV (p : ℕ → FVec F T8 .f32) : FVec F T8 .f32 :=
  mulf (mulf (broadcast T8 (Scalar.ofBits .f32 0x403AE148#32)) (rmsV p)) (broadcast T8 (Scalar.ofBits .f32 0x3E2AAAAB#32))

/-- One step of the search for the exponent: from the power `t` and its code, up by `2^s` (`b` its bits) where that is not above `a`. -/
def stepT (a t : FVec F T8 .f32) (b : BitVec 32) : FVec F T8 .f32 :=
  select (cmpf .oge a (mulf t (broadcast T8 (Scalar.ofBits .f32 b)))) (mulf t (broadcast T8 (Scalar.ofBits .f32 b))) t
def stepC (a t : FVec F T8 .f32) (b : BitVec 32) (s : BitVec 32) (code : IVec T8 32) : IVec T8 32 :=
  select (cmpf .oge a (mulf t (broadcast T8 (Scalar.ofBits .f32 b)))) (addi code (broadcast T8 s)) code

def searchV (a : FVec F T8 .f32) : List (BitVec 32 × BitVec 32) → FVec F T8 .f32 → IVec T8 32 → IVec T8 32
  | [], _, code => code
  | (b, s) :: l, t, code => searchV a l (stepT a t b) (stepC a t b s code)

def steps : List (BitVec 32 × BitVec 32) :=
  [(0x7E000000#32, 125#32), (0x5F800000#32, 64#32), (0x4F800000#32, 32#32), (0x47800000#32, 16#32), (0x43800000#32, 8#32),
    (0x41800000#32, 4#32), (0x40800000#32, 2#32), (0x40000000#32, 1#32)]

def codeP (p : ℕ → FVec F T8 .f32) : IVec T8 32 :=
  select (cmpf .oeq (rmsV p) (broadcast T8 (Scalar.ofBits .f32 0x00000000#32))) (broadcast T8 127#32)
    (searchV (ampV p) steps (broadcast T8 (Scalar.ofBits .f32 0x00800000#32)) (broadcast T8 1#32))

/-- The factor to the E2M1 range: two to minus the exponent, times the rotation's normalisation. -/
def multV (code : IVec T8 32) : FVec F T8 .f32 :=
  mulf (bitcastToFloat .f32 (shli (subi (broadcast T8 254#32) code) (broadcast T8 23#32)))
    (broadcast T8 (Scalar.mulf (Scalar.ofBits .f32 0x3E3504F3#32) (Scalar.ofBits .f32 0x40800000#32)))

def clipV (v : FVec F T8 .f32) : FVec F T8 .f32 :=
  minimumf (broadcast T8 (Scalar.ofBits .f32 0x40C00000#32)) (maximumf (broadcast T8 (Scalar.ofBits .f32 0xC0C00000#32)) v)

/-- The word of the places before `n` that are not clipped. -/
def maskUpTo (p : ℕ → FVec F T8 .f32) (mult : FVec F T8 .f32) : ℕ → IVec T8 32
  | 0 => broadcast T8 0#32
  | n + 1 => ori (maskUpTo p mult n)
      (select (cmpf .oeq (mulf (p n) mult) (clipV (mulf (p n) mult))) (broadcast T8 (BitVec.ofNat 32 (2 ^ n))) (broadcast T8 0#32))

def codeV (d : FVec F T256 .f32) (g : Fin 2) : IVec T8 32 := codeP (pos d g)
def maskV (d : FVec F T256 .f32) (g : Fin 2) : IVec T8 32 := maskUpTo (pos d g) (multV (codeP (pos d g))) 32

end Cert.Tile

end
-- ==== Proof.XPieces.lean ====
/- What one trip of the loop of the quantiser's body for `x` stores in the two scratch arrays: of each of its four rotated
   tiles and each group of 128 rows, the codes and the masks of `Tile`. -/
module
public import proofs.«01_k».proof.Proof.Gen.QuantXIdeal.Value
public import proofs.«01_k».proof.Proof.Tile
@[expose] public section
noncomputable section
namespace Cert.XPieces
open Idealize.ShloMosaic Cert.QuantXIdeal Cert.QuantXIdeal.Gen Cert.Tile
variable {F : FTy → Type} [FloatOps F]

/-- The rotated tile `t` of trip `k`. -/
def dot (arg2 : Memref sig .tc .vmem S256x256 .bf16) (arg3 : Memref sig .tc .vmem S256x4096 .bf16) (X_arg2 : BufTy.Contents (Elt F) arg2.view.ty) (X_arg3 : BufTy.Contents (Elt F) arg3.view.ty) (k : Fin k0_t1_loop.trips) (t : Fin 4) : FVec F S256x256 .f32 :=
  k0_pay2 (View.readAt (s := S256x4096) (Elt F) arg3.view (Rect.unit (s := S256x4096) (k0_off1 k (BitVec.ofNat 32 (256 * t.val))) S256x256.size (k0_off1_inb k t)).toLoadRect X_arg3)
    (View.readAt (s := S256x256) (Elt F) arg2.view (Rect.unit (s := S256x256) ![0, 0] S256x256.size inb_S256x256_S256x256_0_0).toLoadRect X_arg2)

variable (arg2 : Memref sig .tc .vmem S256x256 .bf16) (arg3 : Memref sig .tc .vmem S256x4096 .bf16) (X_arg2 : BufTy.Contents (Elt F) arg2.view.ty) (X_arg3 : BufTy.Contents (Elt F) arg3.view.ty) (k : Fin k0_t1_loop.trips)

/-- The eight blocks of a scratch array a trip stores, of what it computes of tile `t` and group `g`. -/
def tripPieces (f : Fin 4 → Fin 2 → IVec T8 32) : List (View.Piece (Elt F) S2x128x128 .i32) :=
  [⟨Rect.unit (s := S2x128x128) (k0_off5 k 3#32) S1x8x128.size (k0_off5_inb k 3), shapeCast S1x8x128 (f 3 1) shapeCasts_S8x128_S1x8x128⟩,
   ⟨Rect.unit (s := S2x128x128) (k0_off3 k 3#32) S1x8x128.size (k0_off3_inb k 3), shapeCast S1x8x128 (f 3 0) shapeCasts_S8x128_S1x8x128⟩,
   ⟨Rect.unit (s := S2x128x128) (k0_off5 k 2#32) S1x8x128.size (k0_off5_inb k 2), shapeCast S1x8x128 (f 2 1) shapeCasts_S8x128_S1x8x128⟩,
   ⟨Rect.unit (s := S2x128x128) (k0_off3 k 2#32) S1x8x128.size (k0_off3_inb k 2), shapeCast S1x8x128 (f 2 0) shapeCasts_S8x128_S1x8x128⟩,
   ⟨Rect.unit (s := S2x128x128) (k0_off5 k 1#32) S1x8x128.size (k0_off5_inb k 1), shapeCast S1x8x128 (f 1 1) shapeCasts_S8x128_S1x8x128⟩,
   ⟨Rect.unit (s := S2x128x128) (k0_off3 k 1#32) S1x8x128.size (k0_off3_inb k 1), shapeCast S1x8x128 (f 1 0) shapeCasts_S8x128_S1x8x128⟩,
   ⟨Rect.unit (s := S2x128x128) (k0_off5 k 0#32) S1x8x128.size (k0_off5_inb k 0), shapeCast S1x8x128 (f 0 1) shapeCasts_S8x128_S1x8x128⟩,
   ⟨Rect.unit (s := S2x128x128) (k0_off3 k 0#32) S1x8x128.size (k0_off3_inb k 0), shapeCast S1x8x128 (f 0 0) shapeCasts_S8x128_S1x8x128⟩]

variable (𝒱 : Variants) (c : Dev nD) (bd : Option 𝒱.V) (i : grid0.Coords) (harg2 : arg2.IsWhole) (harg3 : arg3.IsWhole) (arg4 : Memref sig .tc .vmem S256x4096 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)

theorem codes_trip (v0) : (trip_k0_t1 (F := F) 𝒱 c bd i arg2 harg2 arg3 harg3 arg4 harg4 arg5 harg5 arg6 harg6 arg7 harg7 arg8 harg8 arg9 harg9 v0 X_arg2 X_arg3 k).2.2.2.1
    = tripPieces k fun t g => codeV (dot arg2 arg3 X_arg2 X_arg3 k t) g := by
  unfold trip_k0_t1
  sl_kernel_rfl

theorem masks_trip (v0) : (trip_k0_t1 (F := F) 𝒱 c bd i arg2 harg2 arg3 harg3 arg4 harg4 arg5 harg5 arg6 harg6 arg7 harg7 arg8 harg8 arg9 harg9 v0 X_arg2 X_arg3 k).2.2.1
    = tripPieces k fun t g => maskV (dot arg2 arg3 X_arg2 X_arg3 k t) g := by
  unfold trip_k0_t1
  sl_kernel_rfl
end Cert.XPieces
end
-- ==== Proof.XScratch.lean ====
/- The two scratch arrays of the quantiser's body, after its four trips: the word at (g, B, r) is that of block B of the chunk
   and row 128 g + r. -/
module

public import proofs.«01_k».proof.Proof.XPieces
public import Idealize.ShloMosaic.Lib.Pipeline.Value
public import Idealize.ShloMosaic.Lib.Pipeline.ValueKit.Geometry

@[expose] public section

noncomputable section

namespace Cert.XScratch

open Idealize.ShloMosaic Cert.QuantXIdeal Cert.QuantXIdeal.Gen Cert.Tile Cert.XPieces

variable {F : FTy → Type} [FloatOps F]

theorem trips_eq : k0_t1_loop.trips = 4 := by decide

/-- The scratch array of what trip `k` computes of tile `t` and group `g`. -/
def scr (f : Fin k0_t1_loop.trips → Fin 4 → Fin 2 → IVec T8 32) (y : S2x128x128.Idx) : BitVec 32 :=
  f ⟨(y 1).val / 32, by have h : (y 1).val < 128 := (y 1).isLt; rw [trips_eq]; omega⟩ ⟨(y 1).val / 8 % 4, Nat.mod_lt _ (by decide)⟩ (y 0)
    (ix2 ⟨(y 1).val % 8, Nat.mod_lt _ (by decide)⟩ (y 2))

theorem piece_scr (f : Fin k0_t1_loop.trips → Fin 4 → Fin 2 → IVec T8 32) (k : Fin k0_t1_loop.trips) (t : Fin 4) (g : Fin 2)
    (off : Fin 3 → ℕ) (inb : ∀ a, off a + S1x8x128.size a ≤ S2x128x128.size a) (h : off = ![g.val, 32 * k.val + 8 * t.val, 0]) (x : S1x8x128.Idx) :
    shapeCast S1x8x128 (f k t g) shapeCasts_S8x128_S1x8x128 x = scr f ((Rect.unit (s := S2x128x128) off S1x8x128.size inb).emb x) := by
  subst h
  have h0 : (x 0).val < 1 := (x 0).isLt
  have h1 : (x 1).val < 8 := (x 1).isLt
  have hk : k.val < 4 := trips_eq ▸ k.isLt
  have ht := t.isLt
  rw [shapeCast_addUnit_apply ![8, 128] (f k t g) shapeCasts_S8x128_S1x8x128 x]
  have e := ValueKit.rect_emb_unit_val (s := S2x128x128) ![g.val, 32 * k.val + 8 * t.val, 0] S1x8x128.size inb x
  generalize (Rect.unit (s := S2x128x128) ![g.val, 32 * k.val + 8 * t.val, 0] S1x8x128.size inb).emb x = y at e ⊢
  have e0 : (y 0).val = g.val + (x 0).val := e 0
  have e1 : (y 1).val = 32 * k.val + 8 * t.val + (x 1).val := e 1
  have e2 : (y 2).val = 0 + (x 2).val := e 2
  unfold scr
  have hk' : (⟨(y 1).val / 32, by have h : (y 1).val < 128 := (y 1).isLt; rw [trips_eq]; omega⟩ : Fin k0_t1_loop.trips) = k :=
    Fin.ext (by show (y 1).val / 32 = _; omega)
  have ht' : (⟨(y 1).val / 8 % 4, Nat.mod_lt _ (by decide)⟩ : Fin 4) = t := Fin.ext (by show (y 1).val / 8 % 4 = _; omega)
  have hg' : (y 0 : Fin 2) = g := Fin.ext (by show (y 0).val = _; omega)
  rw [hk', ht', hg']
  exact congrArg (f k t g) (idx2_ext (by show (x 1).val = (y 1).val % 8; omega) (by show (x 2).val = (y 2).val; omega))

theorem tripPieces_scr (f : Fin k0_t1_loop.trips → Fin 4 → Fin 2 → IVec T8 32) (k : Fin k0_t1_loop.trips) :
    ∀ p ∈ tripPieces (F := F) k (f k), ∀ x : p.1.shape.Idx, p.2 x = scr f (p.1.emb x) := by
  intro p hp
  unfold tripPieces at hp
  simp only [List.mem_cons, List.not_mem_nil, or_false] at hp
  rcases hp with rfl | rfl | rfl | rfl | rfl | rfl | rfl | rfl
  · exact piece_scr f k 3 1 _ (k0_off5_inb k 3) (k0_off5_eq k 3)
  · exact piece_scr f k 3 0 _ (k0_off3_inb k 3) (k0_off3_eq k 3)
  · exact piece_scr f k 2 1 _ (k0_off5_inb k 2) (k0_off5_eq k 2)
  · exact piece_scr f k 2 0 _ (k0_off3_inb k 2) (k0_off3_eq k 2)
  · exact piece_scr f k 1 1 _ (k0_off5_inb k 1) (k0_off5_eq k 1)
  · exact piece_scr f k 1 0 _ (k0_off3_inb k 1) (k0_off3_eq k 1)
  · exact piece_scr f k 0 1 _ (k0_off5_inb k 0) (k0_off5_eq k 0)
  · exact piece_scr f k 0 0 _ (k0_off3_inb k 0) (k0_off3_eq k 0)

def trip (n : ℕ) (h : n < 4 := by decide) : Fin k0_t1_loop.trips := ⟨n, by rw [trips_eq]; exact h⟩

/-- All the pieces, the last trip's first. -/
def allPieces (f : Fin k0_t1_loop.trips → Fin 4 → Fin 2 → IVec T8 32) : List (View.Piece (Elt F) S2x128x128 .i32) :=
  tripPieces (trip 3) (f (trip 3)) ++ (tripPieces (trip 2) (f (trip 2)) ++ (tripPieces (trip 1) (f (trip 1)) ++ (tripPieces (trip 0) (f (trip 0)) ++ [])))

theorem allPieces_scr (f : Fin k0_t1_loop.trips → Fin 4 → Fin 2 → IVec T8 32) :
    ∀ p ∈ allPieces (F := F) f, ∀ x : p.1.shape.Idx, p.2 x = scr f (p.1.emb x) := by
  intro p hp
  unfold allPieces at hp
  simp only [List.mem_append, List.not_mem_nil, or_false] at hp
  rcases hp with h | h | h | h
  · exact tripPieces_scr f _ p h
  · exact tripPieces_scr f _ p h
  · exact tripPieces_scr f _ p h
  · exact tripPieces_scr f _ p h

theorem allPieces_cover (f : Fin k0_t1_loop.trips → Fin 4 → Fin 2 → IVec T8 32) :
    ∀ y, ∃ p ∈ allPieces (F := F) f, y ∈ p.1.set := by
  refine View.cover_of_tiledL _ ![1, 8, 128] ?_
  sl_kernel_rfl

/-- A group of the scratch array, loaded. -/
theorem readCov_allPieces (v : View sig .tc .vmem S2x128x128 .i32) (f : Fin k0_t1_loop.trips → Fin 4 → Fin 2 → IVec T8 32) (r : Rect S2x128x128) (x : r.shape.Idx) :
    v.readCov (Val := Elt F) (allPieces (F := F) f) r x = scr f (r.idx x) := by
  rw [View.readCov_eq_canon_ld v _ r (allPieces_cover (F := F) f)]
  exact View.canon_apply_of_pieces (scr f) _ (allPieces_scr (F := F) f) _ (allPieces_cover (F := F) f _)

variable (arg2 : Memref sig .tc .vmem S256x256 .bf16) (arg3 : Memref sig .tc .vmem S256x4096 .bf16) (X_arg2 : BufTy.Contents (Elt F) arg2.view.ty) (X_arg3 : BufTy.Contents (Elt F) arg3.view.ty)
variable (𝒱 : Variants) (c : Dev nD) (bd : Option 𝒱.V) (i : grid0.Coords) (harg2 : arg2.IsWhole) (harg3 : arg3.IsWhole) (arg4 : Memref sig .tc .vmem S256x4096 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)

theorem codes_pieces (v0) : (pb_k0_t1 (F := F) 𝒱 c bd i arg2 harg2 arg3 harg3 arg4 harg4 arg5 harg5 arg6 harg6 arg7 harg7 arg8 harg8 arg9 harg9 v0 X_arg2 X_arg3 4).2.2.2
    = allPieces (F := F) fun k t g => codeV (dot (F := F) arg2 arg3 X_arg2 X_arg3 k t) g := by
  have h := fun k => congrArg (fun p => p.2.2.2) (pb_k0_t1_succ (F := F) 𝒱 c bd i arg2 harg2 arg3 harg3 arg4 harg4 arg5 harg5 arg6 harg6 arg7 harg7 arg8 harg8 arg9 harg9 v0 X_arg2 X_arg3 k)
  dsimp only at h
  simp only [codes_trip] at h
  have h3 := h (trip 3); have h2 := h (trip 2); have h1 := h (trip 1); have h0 := h (trip 0)
  refine h3.trans ?_
  unfold allPieces
  refine congrArg _ (h2.trans (congrArg _ (h1.trans (congrArg _ (h0.trans (congrArg _ ?_))))))
  rfl

theorem masks_pieces (v0) : (pb_k0_t1 (F := F) 𝒱 c bd i arg2 harg2 arg3 harg3 arg4 harg4 arg5 harg5 arg6 harg6 arg7 harg7 arg8 harg8 arg9 harg9 v0 X_arg2 X_arg3 4).2.2.1
    = allPieces (F := F) fun k t g => maskV (dot (F := F) arg2 arg3 X_arg2 X_arg3 k t) g := by
  have h := fun k => congrArg (fun p => p.2.2.1) (pb_k0_t1_succ (F := F) 𝒱 c bd i arg2 harg2 arg3 harg3 arg4 harg4 arg5 harg5 arg6 harg6 arg7 harg7 arg8 harg8 arg9 harg9 v0 X_arg2 X_arg3 k)
  dsimp only at h
  simp only [masks_trip] at h
  have h3 := h (trip 3); have h2 := h (trip 2); have h1 := h (trip 1); have h0 := h (trip 0)
  refine h3.trans ?_
  unfold allPieces
  refine congrArg _ (h2.trans (congrArg _ (h1.trans (congrArg _ (h0.trans (congrArg _ ?_))))))
  rfl

end Cert.XScratch

end
-- ==== Proof.XBlocks.lean ====
/- What a point of the quantiser's grid writes of the masks and of the scales, at an index, from the words its trips
   leave in the two scratch arrays. -/
module

public import proofs.«01_k».proof.Proof.XScratch
public import Idealize.ShloMosaic.Lib.Pipeline.ValueKit
public import Idealize.ShloMosaic.Lib.Pipeline.ReadBack
public import Idealize.ShloMosaic.Lib.Pointwise

@[expose] public section

set_option maxRecDepth 16384

noncomputable section

namespace Cert.XBlocks

open Idealize.ShloMosaic Cert.QuantXIdeal Cert.QuantXIdeal.Gen Cert.Tile Cert.XPieces Cert.XScratch

variable {F : FTy → Type} [FloatOps F]

/-- A group of scratch words, turned so that rows are the operand's. -/
def turned (v : Vec F S1x128x128 .i32) : IVec S128x128 32 :=
  transpose S128x128 [1, 0] (shapeCast S128x128 v shapeCasts_S1x128x128_S128x128) transposes_S128x128_p1_0_S128x128

theorem turned_apply (v : Vec F S1x128x128 .i32) (j : S128x128.Idx) :
    turned v j = v (ix3 0 (j 1) (j 0)) := by
  unfold turned
  pointwise

theorem turned_scr (v : View sig .tc .vmem S2x128x128 .i32) (f : Fin k0_t1_loop.trips → Fin 4 → Fin 2 → IVec T8 32) (g : Fin 2)
    (inb : ∀ a, ![g.val, 0, 0] a + S1x128x128.size a ≤ S2x128x128.size a) (j : S128x128.Idx) :
    turned (F := F) (v.readCov (Val := Elt F) (allPieces (F := F) f) (Rect.unit (s := S2x128x128) ![g.val, 0, 0] S1x128x128.size inb).toLoadRect) j
      = scr f (ix3 g (j 1) (j 0)) := by
  rw [turned_apply, readCov_allPieces]
  refine congrArg (scr f) (funext fun a => Fin.ext ((Rect.idx_unit_val _ _ inb _ a).trans ?_))
  match a with
  | ⟨0, _⟩ => rfl
  | ⟨1, _⟩ => exact Nat.zero_add _
  | ⟨2, _⟩ => exact Nat.zero_add _

/-- The lane each mask byte comes from. -/
def laneV (u : BitVec 32) : IVec S128x128 32 :=
  addi (broadcast S128x128 u) (shrsi (iota .tc S128x128 32 [1] iota_S128x128_d1_w32) (broadcast S128x128 2#32))

/-- A group of mask bytes. -/
def bytesV (u : BitVec 32) (w : IVec S128x128 32) : IVec S128x128 8 :=
  trunci 8 (shrsi (dynamicGather 1 w (shapeCast S128x128 (shapeCast S128x128x1
      (select (cmpi .slt (laneV u) (broadcast S128x128 0#32)) (addi (laneV u) (broadcast S128x128 128#32)) (laneV u))
      shapeCasts_S128x128_S128x128x1) shapeCasts_S128x128x1_S128x128))
    (muli (andi (iota .tc S128x128 32 [1] iota_S128x128_d1_w32) (broadcast S128x128 3#32)) (broadcast S128x128 8#32))) natLt_8_32

theorem shrsi_of {x y : BitVec 32} {k : ℕ} (hy : y.toNat = k) (hk : k < 32) : IntOp.shrsi ArithUnit.vector x y = x.sshiftRight k := by
  subst hy
  unfold IntOp.shrsi
  rw [if_pos hk]
  rfl

theorem bytesV_apply (u : Fin 4) (w : IVec S128x128 32) (j : S128x128.Idx) :
    bytesV (BitVec.ofNat 32 (32 * u.val)) w j
      = ((w (ix2 (j 0) ⟨32 * u.val + (j 1).val / 4, by have h : (j 1).val < 128 := (j 1).isLt; have := u.isLt; omega⟩)).sshiftRight (8 * ((j 1).val % 4))).setWidth 8 := by
  have hl : ∀ (u : Fin 4) (l : Fin 128), (Scalar.select (IntOp.cmpi CmpIPredicate.slt (IntOp.addi (BitVec.ofNat 32 (32 * u.val))
      (IntOp.shrsi ArithUnit.vector (BitVec.ofNat 32 l.val) 2#32)) 0#32)
      (IntOp.addi (IntOp.addi (BitVec.ofNat 32 (32 * u.val)) (IntOp.shrsi ArithUnit.vector (BitVec.ofNat 32 l.val) 2#32)) 128#32)
      (IntOp.addi (BitVec.ofNat 32 (32 * u.val)) (IntOp.shrsi ArithUnit.vector (BitVec.ofNat 32 l.val) 2#32))).toNat % 128
      = 32 * u.val + l.val / 4 := by decide +kernel
  have hs : ∀ (l : Fin 128), (IntOp.muli (IntOp.andi (BitVec.ofNat 32 l.val) 3#32) 8#32).toNat = 8 * (l.val % 4) := by decide +kernel
  unfold bytesV laneV
  pointwise
  rw [shrsi_of (hs (j 1)) (by omega)]
  refine congrArg (fun x => BitVec.setWidth 8 (BitVec.sshiftRight x _)) (congrArg w (idx2_ext rfl ?_))
  exact hl u (j 1)

variable (c : Dev nD) (i : grid0.Coords) (arg2 : Memref sig .tc .vmem S256x256 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)
  (x0 : Vec F S256x256 .bf16) (x1 : Vec F S256x4096 .bf16)

/-- The scale at (row, block): the code there, as a byte. -/
def scaleAt (s : S2x128x128.Idx → BitVec 32) (y : S256x128.Idx) : BitVec 8 :=
  (s (ix3 ⟨(y 0).val / 128, by have h : (y 0).val < 256 := (y 0).isLt; omega⟩ (y 1) ⟨(y 0).val % 128, Nat.mod_lt _ (by decide)⟩)).setWidth 8

/-- Byte (row, q) of the words: byte q % 4 of the word at block q / 4. -/
def byteAt (s : S2x128x128.Idx → BitVec 32) (y : S256x512.Idx) : BitVec 8 :=
  ((s (ix3 ⟨(y 0).val / 128, by have h : (y 0).val < 256 := (y 0).isLt; omega⟩ ⟨(y 1).val / 4, by have h : (y 1).val < 512 := (y 1).isLt; omega⟩
    ⟨(y 0).val % 128, Nat.mod_lt _ (by decide)⟩)).sshiftRight (8 * ((y 1).val % 4))).setWidth 8

/-- The codes a point's trips find. -/
def codes : S2x128x128.Idx → BitVec 32 := scr fun k t g => codeV (dot (F := F) arg2 arg3 (harg2.unread x0) (harg3.unread x1) k t) g

/-- The masks a point's trips find. -/
def masks : S2x128x128.Idx → BitVec 32 := scr fun k t g => maskV (dot (F := F) arg2 arg3 (harg2.unread x0) (harg3.unread x1) k t) g

theorem trips4 : Scf.trips (0#32) (Scalar.addi 0#32 4#32) 1#32 = 4 := by decide

/-- The scales stored of a group. -/
theorem scale_piece (f : Fin k0_t1_loop.trips → Fin 4 → Fin 2 → IVec T8 32) (v : View sig .tc .vmem S2x128x128 .i32) (g : Fin 2)
    (inb : ∀ a, ![g.val, 0, 0] a + S1x128x128.size a ≤ S2x128x128.size a)
    (inb' : ∀ a, ![128 * g.val, 0] a + S128x128.size a ≤ S256x128.size a) (x : S128x128.Idx) :
    trunci 8 (turned (F := F) (v.readCov (Val := Elt F) (allPieces (F := F) f) (Rect.unit (s := S2x128x128) ![g.val, 0, 0] S1x128x128.size inb).toLoadRect)) natLt_8_32 x
      = scaleAt (scr f) ((Rect.unit (s := S256x128) ![128 * g.val, 0] S128x128.size inb').emb x) := by
  refine (congrArg (BitVec.setWidth 8) (turned_scr v f g inb x)).trans ?_
  have e := ValueKit.rect_emb_unit_val (s := S256x128) ![128 * g.val, 0] S128x128.size inb' x
  generalize (Rect.unit (s := S256x128) ![128 * g.val, 0] S128x128.size inb').emb x = y at e ⊢
  have e0 : (y 0).val = 128 * g.val + (x 0).val := e 0
  have e1 : (y 1).val = 0 + (x 1).val := e 1
  have h0 : (x 0).val < 128 := (x 0).isLt
  unfold scaleAt
  refine congrArg (fun y => (scr _ y).setWidth 8) (idx3_ext ?_ ?_ ?_)
  · show g.val = (y 0).val / 128; omega
  · show (x 1).val = (y 1).val; omega
  · show (x 0).val = (y 0).val % 128; omega

theorem out_scales (y : S256x128.Idx) :
    out0_A_5 (F := F) c i arg2 harg2 arg3 harg3 arg4 harg4 arg5 harg5 arg6 harg6 arg7 harg7 arg8 harg8 arg9 harg9 x0 x1 y
      = scaleAt (codes arg2 harg2 arg3 harg3 x0 x1) y := by
  unfold out0_A_5
  rw [View.read_writes_apply_eq_canon _ _ _ _ (cover0_A_5 c i arg2 harg2 arg3 harg3 arg4 harg4 arg5 harg5 arg6 harg6 arg7 harg7 arg8 harg8 arg9 harg9 x0 x1 y)]
  refine View.canon_apply_of_pieces (Val := Elt F) (scaleAt (codes arg2 harg2 arg3 harg3 x0 x1)) _ ?_ y
    (cover0_A_5 c i arg2 harg2 arg3 harg3 arg4 harg4 arg5 harg5 arg6 harg6 arg7 harg7 arg8 harg8 arg9 harg9 x0 x1 y)
  unfold kernelRun0_A
  dsimp only
  rw [trips4, codes_pieces]
  intro p hp
  simp only [List.mem_cons, List.not_mem_nil, or_false] at hp
  rcases hp with rfl | rfl
  · exact scale_piece (F := F) _ arg9.view 1 inb_S2x128x128_S1x128x128_1_0_0 inb_S256x128_S128x128_128_0
  · exact scale_piece (F := F) _ arg9.view 0 inb_S2x128x128_S1x128x128_0_0_0 inb_S256x128_S128x128_0_0

/-- A group of mask bytes stored: the word's byte. -/
theorem mask_piece (f : Fin k0_t1_loop.trips → Fin 4 → Fin 2 → IVec T8 32) (v : View sig .tc .vmem S2x128x128 .i32) (g : Fin 2) (u : Fin 4)
    (inb : ∀ a, ![g.val, 0, 0] a + S1x128x128.size a ≤ S2x128x128.size a)
    (inb' : ∀ a, ![128 * g.val, 128 * u.val] a + S128x128.size a ≤ S256x512.size a) (x : S128x128.Idx) :
    bytesV (BitVec.ofNat 32 (32 * u.val)) (turned (F := F) (v.readCov (Val := Elt F) (allPieces (F := F) f) (Rect.unit (s := S2x128x128) ![g.val, 0, 0] S1x128x128.size inb).toLoadRect)) x
      = byteAt (scr f) ((Rect.unit (s := S256x512) ![128 * g.val, 128 * u.val] S128x128.size inb').emb x) := by
  rw [bytesV_apply, turned_scr]
  have e := ValueKit.rect_emb_unit_val (s := S256x512) ![128 * g.val, 128 * u.val] S128x128.size inb' x
  generalize (Rect.unit (s := S256x512) ![128 * g.val, 128 * u.val] S128x128.size inb').emb x = y at e ⊢
  have e0 : (y 0).val = 128 * g.val + (x 0).val := e 0
  have e1 : (y 1).val = 128 * u.val + (x 1).val := e 1
  have h0 : (x 0).val < 128 := (x 0).isLt
  have h1 : (x 1).val < 128 := (x 1).isLt
  unfold byteAt
  rw [show (y 1).val % 4 = (x 1).val % 4 by omega]
  refine congrArg (fun y => ((scr _ y).sshiftRight _).setWidth 8) (idx3_ext ?_ ?_ ?_)
  · show g.val = (y 0).val / 128; omega
  · show 32 * u.val + (x 1).val / 4 = (y 1).val / 4; omega
  · show (x 0).val = (y 0).val % 128; omega

theorem out_masks (y : S256x512.Idx) :
    out0_A_4 (F := F) c i arg2 harg2 arg3 harg3 arg4 harg4 arg5 harg5 arg6 harg6 arg7 harg7 arg8 harg8 arg9 harg9 x0 x1 y
      = byteAt (masks arg2 harg2 arg3 harg3 x0 x1) y := by
  unfold out0_A_4
  rw [View.read_writes_apply_eq_canon _ _ _ _ (cover0_A_4 c i arg2 harg2 arg3 harg3 arg4 harg4 arg5 harg5 arg6 harg6 arg7 harg7 arg8 harg8 arg9 harg9 x0 x1 y)]
  refine View.canon_apply_of_pieces (Val := Elt F) (byteAt (masks arg2 harg2 arg3 harg3 x0 x1)) _ ?_ y
    (cover0_A_4 c i arg2 harg2 arg3 harg3 arg4 harg4 arg5 harg5 arg6 harg6 arg7 harg7 arg8 harg8 arg9 harg9 x0 x1 y)
  unfold kernelRun0_A
  dsimp only [kernelRun0_A.sl.v0, kernelRun0_A.sl.r, kernelRun0_A.sl.r_1, kernelRun0_A.sl.r_2]
  rw [trips4, masks_pieces]
  intro p hp
  simp only [List.mem_cons, List.not_mem_nil, or_false] at hp
  rcases hp with rfl | rfl | rfl | rfl | rfl | rfl | rfl | rfl
  · exact mask_piece (F := F) _ arg8.view 1 3 inb_S2x128x128_S1x128x128_1_0_0 inb_S256x512_S128x128_128_384
  · exact mask_piece (F := F) _ arg8.view 1 2 inb_S2x128x128_S1x128x128_1_0_0 inb_S256x512_S128x128_128_256
  · exact mask_piece (F := F) _ arg8.view 1 1 inb_S2x128x128_S1x128x128_1_0_0 inb_S256x512_S128x128_128_128
  · exact mask_piece (F := F) _ arg8.view 1 0 inb_S2x128x128_S1x128x128_1_0_0 inb_S256x512_S128x128_128_0
  · exact mask_piece (F := F) _ arg8.view 0 3 inb_S2x128x128_S1x128x128_0_0_0 inb_S256x512_S128x128_0_384
  · exact mask_piece (F := F) _ arg8.view 0 2 inb_S2x128x128_S1x128x128_0_0_0 inb_S256x512_S128x128_0_256
  · exact mask_piece (F := F) _ arg8.view 0 1 inb_S2x128x128_S1x128x128_0_0_0 inb_S256x512_S128x128_0_128
  · exact mask_piece (F := F) _ arg8.view 0 0 inb_S2x128x128_S1x128x128_0_0_0 inb_S256x512_S128x128_0_0

end Cert.XBlocks

end
-- ==== Proof.Spec.lean ====
/- The quantiser of one block of 32 rotated values, at the extended reals: its exponent code and which of its values are not
   clipped. The exponent is the number of the powers 2^-125 … 2^126 not above an amplitude; the greedy search by the steps
   125, 64, 32, 16, 8, 4, 2, 1 finds the same number (`search_eq`). -/
module

public import proofs.«01_k».proof.Defs
public import Idealize.ShloMosaic.PureOps.Ideal.Laws

@[expose] public section

noncomputable section

namespace Cert.Spec

open Idealize.ShloMosaic
open scoped Classical

/-- Two to the power `z`. -/
def pw (z : ℤ) : EReal := (((2 : ℝ) ^ z : ℝ) : EReal)

theorem pw_mul (a b : ℤ) : pw a * pw b = pw (a + b) := by
  unfold pw
  rw [← EReal.coe_mul, ← zpow_add₀ (by norm_num : (2 : ℝ) ≠ 0)]

theorem pw_mono {a b : ℤ} (h : a ≤ b) : pw a ≤ pw b := by
  unfold pw
  exact EReal.coe_le_coe_iff.2 (zpow_le_zpow_right₀ (by norm_num) h)

/-- A power of two comes out of a sum. -/
theorem pw_mul_sum {ι : Type} (S : Finset ι) (z : ℤ) (f : ι → EReal) : ∑ i ∈ S, pw z * f i = pw z * ∑ i ∈ S, f i := by
  have h0 : (0 : EReal) ≤ pw z := EReal.coe_nonneg.2 (zpow_nonneg (by norm_num) z)
  induction S using Finset.induction_on with
  | empty => simp
  | insert a S ha ih =>
    rw [Finset.sum_insert ha, Finset.sum_insert ha, ih]
    exact (EReal.left_distrib_of_nonneg_of_ne_top h0 (EReal.coe_ne_top _) _ _).symm

/-- The words the programs write their powers of two with. -/
theorem bits_pw (c : Fin 256) (h1 : 1 ≤ c.val) (h2 : c.val ≤ 254) :
    Ideal.ofBits .f32 (BitVec.ofNat 32 c.val <<< 23) = pw ((c.val : ℤ) - 127) := by
  have hx : ((BitVec.ofNat 32 c.val <<< 23).extractLsb' 23 8).toNat = c.val := by revert c; decide +kernel
  have hf : ((BitVec.ofNat 32 c.val <<< 23).extractLsb' 0 23).toNat = 0 := by revert c; decide +kernel
  have hs : ((BitVec.ofNat 32 c.val <<< 23).extractLsb' (8 + 23) 1 == 1#1) = false := by revert c; decide +kernel
  show Ideal.ieee 8 23 (BitVec.ofNat 32 c.val <<< 23) = _
  generalize BitVec.ofNat 32 c.val <<< 23 = b at hx hf hs ⊢
  unfold Ideal.ieee pw
  simp only [hx, hf, hs]
  rw [if_neg (by norm_num; omega), if_neg (by omega)]
  refine congrArg (fun r : ℝ => (r : EReal)) ?_
  rw [show ((c.val : ℤ) - 127) = 23 + ((c.val : ℤ) - (2 ^ (8 - 1) - 1) - (23 : ℕ)) by push_cast; ring,
    zpow_add₀ (by norm_num : (2 : ℝ) ≠ 0)]
  norm_num

/-- How many of the powers 2^-125 … 2^126 are not above `a`. -/
def count (a : EReal) : ℕ := (Finset.univ.filter fun m : Fin 252 => pw ((m.val : ℤ) - 125) ≤ a).card

theorem count_le (a : EReal) : count a ≤ 252 := by
  refine (Finset.card_le_univ _).trans ?_
  simp

/-- The `m`-th power is not above `a` exactly when `m` is at most their number. -/
theorem le_count_iff (a : EReal) (m : ℕ) (h1 : 1 ≤ m) (h2 : m ≤ 252) : pw ((m : ℤ) - 126) ≤ a ↔ m ≤ count a := by
  constructor
  · intro h
    have hs : (Finset.univ.filter fun q : Fin 252 => q.val < m) ⊆ Finset.univ.filter fun q : Fin 252 => pw ((q.val : ℤ) - 125) ≤ a := by
      intro q hq
      have hq' := (Finset.mem_filter.1 hq).2
      exact Finset.mem_filter.2 ⟨Finset.mem_univ _, (pw_mono (by omega)).trans h⟩
    have hc := Finset.card_le_card hs
    rwa [Fin.card_filter_val_lt, Nat.min_eq_right h2] at hc
  · intro h
    by_contra hn
    have hs : (Finset.univ.filter fun q : Fin 252 => pw ((q.val : ℤ) - 125) ≤ a) ⊆ Finset.univ.filter fun q : Fin 252 => q.val < m - 1 := by
      intro q hq
      have hq' := (Finset.mem_filter.1 hq).2
      refine Finset.mem_filter.2 ⟨Finset.mem_univ _, ?_⟩
      by_contra hlt
      exact hn ((pw_mono (by omega)).trans hq')
    have hc := Finset.card_le_card hs
    rw [Fin.card_filter_val_lt, Nat.min_eq_right (by omega)] at hc
    unfold count at h
    omega

/-- The greedy search, from the exponent field `c`. -/
def search (a : EReal) : List ℕ → ℕ → ℕ
  | [], c => c
  | s :: l, c => search a l (if pw ((c : ℤ) + s - 127) ≤ a then c + s else c)

/-- The search against a number. -/
def searchN (M : ℕ) : List ℕ → ℕ → ℕ
  | [], c => c
  | s :: l, c => searchN M l (if c + s ≤ M + 1 then c + s else c)

theorem search_searchN (a : EReal) : ∀ (l : List ℕ) (c : ℕ), 1 ≤ c → (∀ s ∈ l, 1 ≤ s) → c + l.sum ≤ 253 →
    search a l c = searchN (count a) l c
  | [], _, _, _, _ => rfl
  | s :: l, c, hc, hs, hl => by
    have h1 : 1 ≤ s := hs s (List.mem_cons_self ..)
    rw [List.sum_cons] at hl
    have h : (pw ((c : ℤ) + s - 127) ≤ a) = (c + s ≤ count a + 1) := by
      have := le_count_iff a (c + s - 1) (by omega) (by omega)
      rw [show (((c + s - 1 : ℕ) : ℤ) - 126) = (c : ℤ) + s - 127 by omega] at this
      rw [this]
      exact propext ⟨fun h => by omega, fun h => by omega⟩
    unfold search searchN
    rw [show (if pw ((c : ℤ) + s - 127) ≤ a then c + s else c) = if c + s ≤ count a + 1 then c + s else c from
      if_congr (Iff.of_eq h) rfl rfl]
    exact search_searchN a l _ (by split <;> omega) (fun q hq => hs q (List.mem_cons_of_mem _ hq)) (by split <;> omega)

def hops : List ℕ := [125, 64, 32, 16, 8, 4, 2, 1]

theorem search_eq (a : EReal) : search a hops 1 = 1 + count a := by
  rw [search_searchN a hops 1 (by decide) (by decide) (by decide)]
  have h : ∀ M : Fin 253, searchN M.val hops 1 = 1 + M.val := by decide +kernel
  exact h ⟨count a, by have := count_le a; omega⟩

/-- The root mean square of a block's values under the normalised rotation, from the unnormalised values `s`. -/
def rms (s : Fin 32 → EReal) : EReal := Ideal.sqrt ((∑ i, s i * s i) * Ideal.ofBits .f32 0x3A800000#32)

def amp (s : Fin 32 → EReal) : EReal := Ideal.ofBits .f32 0x403AE148#32 * rms s * Ideal.ofBits .f32 0x3E2AAAAB#32

/-- The block's exponent, biased. -/
def code (s : Fin 32 → EReal) : ℕ := if rms s = 0 then 127 else 1 + count (amp s)

theorem code_pos (s : Fin 32 → EReal) : 1 ≤ code s := by
  unfold code; split <;> omega
theorem code_le (s : Fin 32 → EReal) : code s ≤ 253 := by
  have := count_le (amp s)
  unfold code; split <;> omega

/-- The value at place `i` over the block's scale. -/
def scaled (s : Fin 32 → EReal) (i : Fin 32) : EReal := s i * Ideal.ofBits .f32 0x3E3504F3#32 * pw (127 - (code s : ℤ))

/-- Not clipped: at most 6 in magnitude. -/
def inside (s : Fin 32 → EReal) (i : Fin 32) : Prop := max (scaled s i) (-scaled s i) ≤ Ideal.ofBits .f32 0x40C00000#32

/-- Eight bits as a byte, the first the lowest. -/
def byte (p : Fin 8 → Prop) : BitVec 8 := BitVec.ofNat 8 (∑ j : Fin 8, if p j then 2 ^ j.val else 0)

theorem byte_getLsbD (p : Fin 8 → Prop) (j : Fin 8) : (byte p).getLsbD j.val = decide (p j) := by
  have h : ∀ (b : Fin 8 → Bool) (j : Fin 8), (BitVec.ofNat 8 (∑ j : Fin 8, if b j = true then 2 ^ j.val else 0)).getLsbD j.val = b j := by
    decide +kernel
  have := h (fun j => decide (p j)) j
  simpa [byte] using this

/-- A quarter. -/
theorem quarter : Ideal.ofBits .f32 0x3E800000#32 = pw (-2) := by
  have := bits_pw 125 (by decide) (by decide)
  simpa using this

/-- A power of two as the host computes it. -/
theorem pow_two (z : ℤ) : Ideal.pow (Ideal.ofBits .f32 0x40000000#32) ((z : ℝ) : EReal) = pw z := by
  have h : Ideal.ofBits .f32 0x40000000#32 = pw 1 := by
    have := bits_pw 128 (by decide) (by decide)
    simpa using this
  rw [h]
  show ((Real.rpow ((2 : ℝ) ^ (1 : ℤ)) (z : ℝ) : ℝ) : EReal) = _
  unfold pw
  rw [zpow_one]
  exact congrArg (fun r : ℝ => (r : EReal)) (Real.rpow_intCast 2 z)

/-- Words added up. -/
theorem fold_addi {ι : Type} (S : Finset ι) (f : ι → BitVec 32) :
    S.fold IntOp.addi 0#32 f = BitVec.ofNat 32 (∑ i ∈ S, (f i).toNat) := by
  induction S using Finset.induction_on with
  | empty => rfl
  | insert a S ha ih =>
    rw [Finset.fold_insert ha, Finset.sum_insert ha, ih, BitVec.ofNat_add, BitVec.ofNat_toNat, BitVec.setWidth_eq]
    rfl

theorem bit_toNat (P : Prop) [Decidable P] : ((BitVec.ofBool (decide P)).setWidth 32).toNat = if P then 1 else 0 := by
  by_cases h : P <;> simp [h]

/-- The powers not above `a`, counted in words. -/
theorem count_word (a : EReal) (f : Fin 252 → BitVec 32)
    (hf : ∀ m : Fin 252, f m = (BitVec.ofBool (decide (pw ((m.val : ℤ) - 125) ≤ a))).setWidth 32) :
    Finset.univ.fold IntOp.addi 0#32 f = BitVec.ofNat 32 (count a) := by
  rw [fold_addi]
  refine congrArg (BitVec.ofNat 32) ?_
  unfold count
  rw [Finset.card_filter]
  exact Finset.sum_congr rfl fun m _ => by rw [hf, bit_toNat]

/-- Eight bits, shifted to their places and added up in words. -/
theorem byte_word (p : Fin 8 → Prop) (f : Fin 8 → BitVec 32)
    (hf : ∀ j : Fin 8, f j = IntOp.shli .host ((BitVec.ofBool (decide (p j))).setWidth 32) (BitVec.ofNat 32 j.val)) :
    (Finset.univ.fold IntOp.addi 0#32 f).setWidth 8 = byte p := by
  have h : ∀ (b : Bool) (j : Fin 8), (IntOp.shli .host ((BitVec.ofBool b).setWidth 32) (BitVec.ofNat 32 j.val)).toNat
      = if b = true then 2 ^ j.val else 0 := by decide +kernel
  rw [fold_addi]
  unfold byte
  rw [BitVec.setWidth_ofNat_of_le (by decide)]
  refine congrArg (BitVec.ofNat 8) ?_
  exact Finset.sum_congr rfl fun j _ => by rw [hf, h]; simp

/-- A word's byte is the byte of its bits. -/
theorem byte_of_bits (w : BitVec 32) (q : ℕ) (hq : q < 4) (p : Fin 32 → Prop) (hp : ∀ i : Fin 32, w.getLsbD i.val = decide (p i)) :
    (w.sshiftRight (8 * q)).setWidth 8 = byte fun j => p ⟨8 * q + j.val, by omega⟩ := by
  refine BitVec.eq_of_getLsbD_eq fun j hj => ?_
  have hb := byte_getLsbD (fun j => p ⟨8 * q + j.val, by omega⟩) ⟨j, hj⟩
  rw [hb, BitVec.getLsbD_setWidth, BitVec.getLsbD_sshiftRight]
  have h := hp ⟨8 * q + j, by omega⟩
  simp only at h
  simp [hj, show ¬ 32 ≤ j by omega, show 8 * q + j < 32 by omega]
  rw [← BitVec.getLsbD_eq_getElem]
  exact h

end Cert.Spec

end
-- ==== Proof.Rotation.lean ====
module
public import Idealize.ShloMosaic.Lib.Pointwise
public import proofs.«01_k».proof.Proof.Spec
/-!
The rotation matrix of the quantising kernels: a 256 by 256 block-diagonal matrix that applies the signs of the
32-point Hadamard matrix to eight interleaved groups of 32 columns, scaled by a quarter. The host computes it from
integer words; here those words are evaluated.
-/

@[expose] public section

set_option maxRecDepth 100000
set_option maxHeartbeats 4000000

noncomputable section

namespace Cert.Rotation

open Idealize.ShloMosaic

variable {F : FTy → Type} [FloatOps F]

/-- The remainder of a word by `k`, of the sign of `k`. -/
def rem (k w : BitVec 32) : BitVec 32 :=
  let d := Scalar.select (IntOp.cmpi .eq k 0#32) 1#32 k
  let r := IntOp.remsi .host w d
  Scalar.select
    (IntOp.andi (IntOp.cmpi .ne (IntOp.cmpi .slt r 0#32) (IntOp.cmpi .slt d 0#32)) (IntOp.cmpi .ne r 0#32))
    (IntOp.addi r d) r

/-- The sign of a word. -/
def sgn (w : BitVec 32) : BitVec 32 := if w = 0 then 0 else if w.msb = true then -1 else 1

/-- The quotient of a word by `k`, rounded down. -/
def quo (k w : BitVec 32) : BitVec 32 :=
  let q := IntOp.divsi .host w k
  Scalar.select
    (IntOp.andi (IntOp.cmpi .ne (sgn w) (sgn k)) (IntOp.cmpi .ne (IntOp.remsi .host w k) 0#32))
    (IntOp.subi q 1#32) q

/-- Which element of its group row `w` of the matrix gives. -/
def place (w : BitVec 32) : BitVec 32 :=
  IntOp.addi (IntOp.muli (quo 8#32 (rem 128#32 w)) 2#32) (quo 128#32 w)

/-- One bit: whether the Hadamard sign of two words is plus. -/
def plus (i j : BitVec 32) : BitVec 1 :=
  IntOp.cmpi .eq (IntOp.andi (IntOp.ctpop (IntOp.andi i j)) 1#32) 0#32

/-- The element the host computes at row `a` and column `b`. -/
def entry (a b : ℕ) : F .bf16 :=
  FloatOps.truncf (φ := .f32) .bf16 (by decide)
    (Scalar.select (IntOp.cmpi .eq (rem 8#32 (BitVec.ofNat 32 a)) (quo 32#32 (BitVec.ofNat 32 b)))
      (Scalar.select (plus (place (BitVec.ofNat 32 a)) (rem 32#32 (BitVec.ofNat 32 b)))
        (FloatOps.ofBits .f32 1048576000#32) (FloatOps.ofBits .f32 3196059648#32))
      (FloatOps.ofBits .f32 0#32))

theorem rem_8 : ∀ a : Fin 256, rem 8#32 (BitVec.ofNat 32 a.val) = BitVec.ofNat 32 (a.val % 8) := by decide +kernel
theorem rem_32 : ∀ a : Fin 256, rem 32#32 (BitVec.ofNat 32 a.val) = BitVec.ofNat 32 (a.val % 32) := by decide +kernel
theorem quo_32 : ∀ a : Fin 256, quo 32#32 (BitVec.ofNat 32 a.val) = BitVec.ofNat 32 (a.val / 32) := by decide +kernel
theorem place_eq : ∀ a : Fin 256,
    place (BitVec.ofNat 32 a.val) = BitVec.ofNat 32 (a.val % 128 / 8 * 2 + a.val / 128) := by decide +kernel

/-- The Hadamard sign of two places. -/
def sign (i j : ℕ) : EReal := Scalar.select (plus (BitVec.ofNat 32 i) (BitVec.ofNat 32 j)) 1 (-1)

theorem minus_quarter : Ideal.ofBits .f32 0xBE800000#32 = -Spec.pw (-2) := by
  have h : ((2 : ℝ) ^ (-2 : ℤ)) = 1 / 4 := by norm_num
  unfold Spec.pw
  rw [h]
  simp [Ideal.ofBits, Ideal.ieee]
  rw [← EReal.coe_mul]
  norm_num

theorem select_eq (P : Prop) [Decidable P] (a b : EReal) : Scalar.select (BitVec.ofBool (decide P)) a b = if P then a else b := by
  unfold Scalar.select
  by_cases h : P <;> simp [h]

/-- The element at the extended reals: the sign over four on the diagonal blocks, zero off them. -/
theorem entry_eq (a b : Fin 256) : entry (F := Ideal) a.val b.val
    = if a.val % 8 = b.val / 32 then Spec.pw (-2) * sign (a.val % 128 / 8 * 2 + a.val / 128) (b.val % 32) else 0 := by
  unfold entry sign
  rw [rem_8, rem_32, quo_32, place_eq]
  show Scalar.select _ (Scalar.select _ (Ideal.ofBits .f32 0x3E800000#32) (Ideal.ofBits .f32 0xBE800000#32)) (Ideal.ofBits .f32 0#32) = _
  rw [Spec.quarter, minus_quarter, Ideal.ofBits_zero]
  have he : ∀ (u : Fin 8) (v : Fin 8), IntOp.cmpi .eq (BitVec.ofNat 32 u.val) (BitVec.ofNat 32 v.val) = BitVec.ofBool (decide (u.val = v.val)) := by
    decide +kernel
  rw [show IntOp.cmpi .eq (BitVec.ofNat 32 (a.val % 8)) (BitVec.ofNat 32 (b.val / 32)) = _ from
    he ⟨a.val % 8, by omega⟩ ⟨b.val / 32, by have := b.isLt; omega⟩, select_eq]
  refine if_congr Iff.rfl ?_ rfl
  generalize plus _ _ = q
  unfold Scalar.select
  by_cases h : q = 1#1
  · simp [h]
  · simp [h]

/-- A row of the rotation against 256 values: a quarter of the signed sum of the row's 32. -/
theorem row_sum (a : Fin 256) (x : Fin 256 → EReal) :
    ∑ b : Fin 256, entry (F := Ideal) a.val b.val * x b
      = Spec.pw (-2) * ∑ k : Fin 32, sign (a.val % 128 / 8 * 2 + a.val / 128) k.val
          * x ⟨32 * (a.val % 8) + k.val, by omega⟩ := by
  rw [← Spec.pw_mul_sum, ← Equiv.sum_comp (finProdFinEquiv (m := 8) (n := 32)), Fintype.sum_prod_type,
    Finset.sum_eq_single (⟨a.val % 8, by omega⟩ : Fin 8)]
  · refine Finset.sum_congr rfl fun k _ => ?_
    have hv : (finProdFinEquiv ((⟨a.val % 8, by omega⟩ : Fin 8), k)) = (⟨32 * (a.val % 8) + k.val, by omega⟩ : Fin 256) :=
      Fin.ext (by simp [finProdFinEquiv]; omega)
    rw [hv, entry_eq, if_pos (by show a.val % 8 = (32 * (a.val % 8) + k.val) / 32; omega), mul_assoc]
    rw [show (32 * (a.val % 8) + k.val) % 32 = k.val by omega]
  · intro u _ hu
    refine Finset.sum_eq_zero fun k _ => ?_
    rw [entry_eq, if_neg, zero_mul]
    intro h
    refine hu (Fin.ext ?_)
    have hv : (finProdFinEquiv (u, k)).val = k.val + 32 * u.val := rfl
    rw [hv] at h
    show u.val = a.val % 8
    omega
  · intro h; exact absurd (Finset.mem_univ _) h

theorem sign_comm (i j : ℕ) : sign i j = sign j i := by
  unfold sign plus
  rw [show IntOp.andi (BitVec.ofNat 32 i) (BitVec.ofNat 32 j) = IntOp.andi (BitVec.ofNat 32 j) (BitVec.ofNat 32 i) from BitVec.and_comm ..]

/-- The 32 rotated values of a group of 32, before any normalisation. -/
def rotated (v : Fin 32 → EReal) (n : Fin 32) : EReal := ∑ k : Fin 32, sign n.val k.val * v k

end Cert.Rotation
end
-- ==== Proof.XRot.lean ====
module
public import proofs.«01_k».proof.Proof.Gen.QuantXIdeal.Value
public import proofs.«01_k».proof.Proof.Rotation
public import Idealize.ShloMosaic.Lib.StableHlo.ReadAt
/-!
The rotation matrix the host hands the quantising kernel for `x`, at an element.
-/

@[expose] public section

set_option maxRecDepth 100000
set_option maxHeartbeats 4000000

noncomputable section

namespace Cert.XRot

open Cert.QuantXIdeal Cert.QuantXIdeal.Gen Idealize.ShloMosaic Idealize.ShloMosaic.TcCoe Idealize.SL.Sem

variable {F : FTy → Type} [FloatOps F]
variable (m : (ℓ : Loc nD τ sig) → Buf (Elt F) ℓ) (c : Dev nD)

/-- The operand main_v28 of the kernel is the word program `Rotation.entry` at every element. -/
theorem rotation_at (j : S256x256.Idx) :
    (V m c main_v28 : (⟨S256x256, .bf16⟩ : BufTy).Contents (Elt F)) j = Rotation.entry (F := F) (j 0).val (j 1).val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_reads_at
  rfl

end Cert.XRot
end
-- ==== Proof.TileRead.lean ====
/- What the quantiser's body computes of a tile (`Tile`), at one block and at the extended reals: the exponent code and the
   clipping mask of the specification (`Spec`). -/
module

public import proofs.«01_k».proof.Proof.Tile
public import proofs.«01_k».proof.Proof.Rotation

@[expose] public section

noncomputable section

namespace Cert.TileRead

open Idealize.ShloMosaic Cert.Tile Cert.Spec
open scoped Classical

variable (p : ℕ → FVec Ideal T8 .f32) (j : T8.Idx) (s : Fin 32 → EReal)

theorem sqTree_eq : ∀ n o : ℕ, sqTree p n o j = ∑ i ∈ Finset.range (2 ^ n), p (o + i) j * p (o + i) j
  | 0, o => by simp [sqTree, mulf]
  | n + 1, o => by
    have h : sqTree p (n + 1) o j = sqTree p n o j + sqTree p n (o + 2 ^ n) j := rfl
    rw [h, sqTree_eq n o, sqTree_eq n (o + 2 ^ n), pow_succ, mul_two, Finset.sum_range_add]
    simp only [Nat.add_assoc]

theorem bits_pow (b : BitVec 32) (c : ℕ) (h1 : 1 ≤ c) (h2 : c ≤ 254) (h : b = BitVec.ofNat 32 c <<< 23) :
    Ideal.ofBits .f32 b = pw ((c : ℤ) - 127) := by
  subst h
  exact bits_pw ⟨c, by omega⟩ h1 h2

variable {p j s}

theorem rms_eq (hp : ∀ n : Fin 32, p n.val j = pw (-2) * s n) : rmsV p j = rms s := by
  have h : rmsV p j = Ideal.sqrt (sqTree p 5 0 j * Ideal.ofBits .f32 0x3C800000#32) := rfl
  rw [h, sqTree_eq, bits_pow _ 121 (by decide) (by decide) (by decide)]
  unfold rms
  rw [bits_pow 0x3A800000#32 117 (by decide) (by decide) (by decide)]
  have hs : ∑ i ∈ Finset.range (2 ^ 5), p (0 + i) j * p (0 + i) j = pw (-4) * ∑ i, s i * s i := by
    rw [← pw_mul_sum, Finset.sum_range fun i => p (0 + i) j * p (0 + i) j]
    refine Finset.sum_congr rfl fun i _ => ?_
    rw [Nat.zero_add, hp i, mul_mul_mul_comm, pw_mul]
    rfl
  rw [hs, mul_comm (pw (-4)), mul_assoc, pw_mul]
  rfl

theorem amp_eq (hp : ∀ n : Fin 32, p n.val j = pw (-2) * s n) : ampV p j = amp s := by
  have h : ampV p j = Ideal.ofBits .f32 0x403AE148#32 * rmsV p j * Ideal.ofBits .f32 0x3E2AAAAB#32 := rfl
  rw [h, rms_eq hp]
  rfl

theorem select_eq (P : Prop) [Decidable P] {α : Type} (a b : α) : Scalar.select (BitVec.ofBool (decide P)) a b = if P then a else b := by
  unfold Scalar.select
  by_cases h : P <;> simp [h]

theorem search_read (a : FVec Ideal T8 .f32) : ∀ (l : List ℕ) (t : FVec Ideal T8 .f32) (code : IVec T8 32) (c : ℕ),
    (∀ q ∈ l, q ≤ 127) → t j = pw ((c : ℤ) - 127) → code j = BitVec.ofNat 32 c →
    searchV a (l.map fun q => (BitVec.ofNat 32 (127 + q) <<< 23, BitVec.ofNat 32 q)) t code j = BitVec.ofNat 32 (search (a j) l c)
  | [], _, _, _, _, _, hc => hc
  | q :: l, t, code, c, hl, ht, hc => by
    have hq : q ≤ 127 := hl q (List.mem_cons_self ..)
    have hm : t j * Ideal.ofBits .f32 (BitVec.ofNat 32 (127 + q) <<< 23) = pw ((c : ℤ) + q - 127) := by
      rw [bits_pow _ (127 + q) (by omega) (by omega) rfl, ht, pw_mul]
      congr 1
      push_cast
      ring
    have h1 : stepT a t (BitVec.ofNat 32 (127 + q) <<< 23) j
        = Scalar.select (BitVec.ofBool (decide (t j * Ideal.ofBits .f32 (BitVec.ofNat 32 (127 + q) <<< 23) ≤ a j)))
            (t j * Ideal.ofBits .f32 (BitVec.ofNat 32 (127 + q) <<< 23)) (t j) := by
      unfold stepT; pointwise
    have h2 : stepC a t (BitVec.ofNat 32 (127 + q) <<< 23) (BitVec.ofNat 32 q) code j
        = Scalar.select (BitVec.ofBool (decide (t j * Ideal.ofBits .f32 (BitVec.ofNat 32 (127 + q) <<< 23) ≤ a j)))
            (code j + BitVec.ofNat 32 q) (code j) := by
      unfold stepC; pointwise; rfl
    rw [hm, select_eq] at h1 h2
    rw [List.map_cons]
    unfold searchV search
    refine search_read a l _ _ _ (fun q hq => hl q (List.mem_cons_of_mem _ hq)) ?_ ?_
    · rw [h1]
      split
      · push_cast; rfl
      · exact ht
    · rw [h2]
      split
      · rw [hc, BitVec.ofNat_add]
      · exact hc

theorem code_eq (hp : ∀ n : Fin 32, p n.val j = pw (-2) * s n) : codeP p j = BitVec.ofNat 32 (code s) := by
  have h : codeP p j = Scalar.select (BitVec.ofBool (decide (rmsV p j = Ideal.ofBits .f32 0x00000000#32))) 127#32
      (searchV (ampV p) steps (broadcast T8 (Scalar.ofBits .f32 0x00800000#32)) (broadcast T8 1#32) j) := by
    unfold codeP; pointwise
  have hst : steps = hops.map fun q => (BitVec.ofNat 32 (127 + q) <<< 23, BitVec.ofNat 32 q) := by decide +kernel
  rw [h, select_eq, rms_eq hp, hst, search_read (ampV p) hops _ _ 1 (by decide) ?_ rfl, amp_eq hp, search_eq, Ideal.ofBits_zero_f32]
  · unfold code
    split <;> rfl
  · exact (bits_pow 0x00800000#32 1 (by decide) (by decide) (by decide)).trans (by norm_num)

theorem mult_eq (code : IVec T8 32) (c : ℕ) (h1 : 1 ≤ c) (h2 : c ≤ 253) (hc : code j = BitVec.ofNat 32 c) :
    multV (F := Ideal) code j = pw (127 - (c : ℤ)) * (Ideal.ofBits .f32 0x3E3504F3#32 * pw 2) := by
  have h : multV (F := Ideal) code j = Ideal.ofBits .f32 (IntOp.shli .vector (254#32 - code j) 23#32)
      * (Ideal.ofBits .f32 0x3E3504F3#32 * Ideal.ofBits .f32 0x40800000#32) := by
    unfold multV; pointwise; rfl
  have hw : ∀ c : Fin 254, IntOp.shli .vector (254#32 - BitVec.ofNat 32 c.val) 23#32 = BitVec.ofNat 32 (254 - c.val) <<< 23 := by
    decide +kernel
  rw [h, hc, hw ⟨c, by omega⟩, bits_pow _ (254 - c) (by omega) (by omega) rfl,
    bits_pow 0x40800000#32 129 (by decide) (by decide) (by decide)]
  congr 2
  omega

theorem six : Ideal.ofBits .f32 0xC0C00000#32 = -Ideal.ofBits .f32 0x40C00000#32 := by
  simp [Ideal.ofBits, Ideal.ieee]

theorem six_pos : (0 : EReal) ≤ Ideal.ofBits .f32 0x40C00000#32 := by
  simp [Ideal.ofBits, Ideal.ieee]
  positivity

theorem clip_iff (x v : EReal) (hx : 0 ≤ x) : v = min x (max (-x) v) ↔ max v (-v) ≤ x := by
  have hn : -x ≤ x := (EReal.neg_le_neg_iff.2 hx).trans (by simpa using hx)
  constructor
  · intro h
    refine max_le (h.le.trans (min_le_left _ _)) (EReal.neg_le.1 ?_)
    rw [h]
    exact le_min hn (le_max_left _ _)
  · intro h
    have h1 : v ≤ x := (le_max_left _ _).trans h
    have h2 : -x ≤ v := EReal.neg_le.1 ((le_max_right _ _).trans h)
    rw [max_eq_right h2, min_eq_right h1]

/-- A bit of the word of the places before `n`: the place is not clipped. -/
theorem mask_eq (hp : ∀ n : Fin 32, p n.val j = pw (-2) * s n) : ∀ (n : ℕ) (_ : n ≤ 32) (i : Fin 32),
    (maskUpTo p (multV (codeP p)) n j).getLsbD i.val = decide (i.val < n ∧ inside s i)
  | 0, _, i => by simp [maskUpTo, broadcast]
  | n + 1, hn, i => by
    have h : maskUpTo p (multV (codeP p)) (n + 1) j = maskUpTo p (multV (codeP p)) n j |||
        Scalar.select (BitVec.ofBool (decide (p n j * multV (codeP p) j
            = min (Ideal.ofBits .f32 0x40C00000#32) (max (Ideal.ofBits .f32 0xC0C00000#32) (p n j * multV (codeP p) j)))))
          (BitVec.ofNat 32 (2 ^ n)) 0#32 := by
      conv_lhs => unfold maskUpTo
      unfold clipV
      pointwise
      rfl
    have hv : p n j * multV (codeP p) j = scaled s ⟨n, by omega⟩ := by
      rw [hp ⟨n, by omega⟩, mult_eq _ (code s) (code_pos s) (code_le s) (code_eq hp)]
      unfold scaled
      have h4 : pw (-2) * pw 2 = 1 := by rw [pw_mul]; simp [pw]
      calc pw (-2) * s ⟨n, by omega⟩ * (pw (127 - (code s : ℤ)) * (Ideal.ofBits .f32 0x3E3504F3#32 * pw 2))
          = (pw (-2) * pw 2) * (s ⟨n, by omega⟩ * Ideal.ofBits .f32 0x3E3504F3#32 * pw (127 - (code s : ℤ))) := by ac_rfl
        _ = _ := by rw [h4, one_mul]
    have hb : ∀ (n i : Fin 32), (BitVec.ofNat 32 (2 ^ n.val)).getLsbD i.val = decide (i.val = n.val) := by decide +kernel
    rw [h, hv, six, select_eq, BitVec.getLsbD_or, mask_eq hp n (by omega) i]
    have hi : (scaled s ⟨n, by omega⟩ = min (Ideal.ofBits .f32 0x40C00000#32) (max (-Ideal.ofBits .f32 0x40C00000#32) (scaled s ⟨n, by omega⟩)))
        ↔ inside s ⟨n, by omega⟩ := clip_iff _ _ six_pos
    by_cases hin : i.val = n
    · subst hin
      by_cases hs : inside s i
      · rw [if_pos (hi.2 hs), hb i i]
        simp [hs]
      · rw [if_neg fun h => hs (hi.1 h)]
        simp [hs]
    · have hz : (if scaled s ⟨n, by omega⟩ = min (Ideal.ofBits .f32 0x40C00000#32) (max (-Ideal.ofBits .f32 0x40C00000#32) (scaled s ⟨n, by omega⟩))
          then BitVec.ofNat 32 (2 ^ n) else 0#32).getLsbD i.val = false := by
        split
        · rw [hb ⟨n, by omega⟩ i]; simpa using hin
        · simp
      rw [hz, Bool.or_false]
      refine decide_eq_decide.2 (and_congr_left fun _ => ?_)
      omega

end Cert.TileRead

end
-- ==== Proof.XDot.lean ====
/- The rotated tile of the quantiser's body for `x`, at an element and at the extended reals: a quarter of the rotated value. -/
module

public import proofs.«01_k».proof.Proof.XBlocks
public import proofs.«01_k».proof.Proof.XRot
public import proofs.«01_k».proof.Proof.TileRead

@[expose] public section

set_option maxRecDepth 16384

noncomputable section

namespace Cert.XDot

open Idealize.ShloMosaic Cert.QuantXIdeal Cert.QuantXIdeal.Gen Cert.Tile Cert.XPieces Cert.XScratch Cert.XBlocks Cert.Spec

variable (arg2 : Memref sig .tc .vmem S256x256 .bf16) (harg2 : arg2.IsWhole) (arg3 : Memref sig .tc .vmem S256x4096 .bf16) (harg3 : arg3.IsWhole)
  (x0 : Vec Ideal S256x256 .bf16) (x1 : Vec Ideal S256x4096 .bf16)

theorem place_of (n v : ℕ) (hn : n < 32) :
    (n % 32 % 2 * 128 + n % 32 / 2 * 8 + v % 8) % 128 / 8 * 2 + (n % 32 % 2 * 128 + n % 32 / 2 * 8 + v % 8) / 128 = n := by
  have hv : v % 8 < 8 := Nat.mod_lt _ (by decide)
  generalize v % 8 = w at hv
  have e : n = 2 * (n / 2) + n % 2 := by omega
  have hp : n % 2 < 2 := Nat.mod_lt _ (by decide)
  have hq : n / 2 < 16 := by omega
  rw [Nat.mod_eq_of_lt hn]
  generalize n % 2 = p at e hp
  generalize n / 2 = q at e hq
  have e1 : (p * 128 + q * 8 + w) % 128 = q * 8 + w := by omega
  have e2 : (p * 128 + q * 8 + w) / 128 = p := by omega
  rw [e1, e2]
  omega

theorem read_rot : View.readAt (s := S256x256) (Elt Ideal) arg2.view
    (Rect.unit (s := S256x256) ![0, 0] S256x256.size inb_S256x256_S256x256_0_0).toLoadRect (harg2.unread x0) = x0 := by
  rw [View.readAt_eq_ld, harg2.read_unread]
  exact Idealize.ShloMosaic.View.ld_unit_zero (S := S256x256) (funext fun a => match a with | ⟨0, _⟩ => rfl | ⟨1, _⟩ => rfl) inb_S256x256_S256x256_0_0 x0

theorem read_cols (k : Fin k0_t1_loop.trips) (t : Fin 4) (y : S256x256.Idx) : View.readAt (s := S256x4096) (Elt Ideal) arg3.view
    (Rect.unit (s := S256x4096) (k0_off1 k (BitVec.ofNat 32 (256 * t.val))) S256x256.size (k0_off1_inb k t)).toLoadRect (harg3.unread x1) y
      = x1 (ix2 (y 0) ⟨1024 * k.val + 256 * t.val + (y 1).val, by
          have hk : k.val < 4 := trips_eq ▸ k.isLt
          have hy : (y 1).val < 256 := (y 1).isLt
          omega⟩) := by
  rw [View.readAt_eq_ld, harg3.read_unread]
  refine congrArg x1 (idx2_ext ?_ ?_)
  · refine (Rect.idx_unit_val (s := S256x4096) (k0_off1 k (BitVec.ofNat 32 (256 * t.val))) S256x256.size (k0_off1_inb k t) y 0).trans ?_
    rw [congrFun (k0_off1_eq k t) 0]
    exact Nat.zero_add _
  · refine (Rect.idx_unit_val (s := S256x4096) (k0_off1 k (BitVec.ofNat 32 (256 * t.val))) S256x256.size (k0_off1_inb k t) y 1).trans ?_
    rw [congrFun (k0_off1_eq k t) 1]
    rfl

/-- The tile is the rows of the rotation against the columns of its part of the block. -/
theorem dot_apply (k : Fin k0_t1_loop.trips) (t : Fin 4) (j : S256x256.Idx) :
    dot (F := Ideal) arg2 arg3 (harg2.unread x0) (harg3.unread x1) k t j
      = ∑ b : Fin 256, x0 (ix2 (j 0) b) * x1 (ix2 (j 1) ⟨1024 * k.val + 256 * t.val + b.val, by
          have hk : k.val < 4 := trips_eq ▸ k.isLt
          omega⟩) := by
  unfold dot k0_pay2
  pointwise
  refine Finset.sum_congr rfl fun b _ => ?_
  rw [read_rot, read_cols]
  rfl

/-- The rotated values of block `b` of row `r` of a block of the operand. -/
def blockRot (r : Fin 256) (b : Fin 128) : Fin 32 → EReal :=
  Rotation.rotated fun k => x1 (ix2 r ⟨32 * b.val + k.val, by omega⟩)

variable (hx0 : ∀ a b : Fin 256, x0 (ix2 a b) = Rotation.entry (F := Ideal) a.val b.val)
include hx0

/-- A quarter of the rotated value, at every place of the block a scratch word stands for. -/
theorem pos_eq (y : S2x128x128.Idx) (n : Fin 32) :
    pos (dot (F := Ideal) arg2 arg3 (harg2.unread x0) (harg3.unread x1)
        ⟨(y 1).val / 32, by have h : (y 1).val < 128 := (y 1).isLt; rw [trips_eq]; omega⟩ ⟨(y 1).val / 8 % 4, Nat.mod_lt _ (by decide)⟩) (y 0) n.val
        (ix2 ⟨(y 1).val % 8, Nat.mod_lt _ (by decide)⟩ (y 2))
      = pw (-2) * blockRot x1 ⟨128 * (y 0).val + (y 2).val, by
          have h0 : (y 0).val < 2 := (y 0).isLt
          have h2 : (y 2).val < 128 := (y 2).isLt
          omega⟩ (y 1) n := by
  have h0 : (y 0).val < 2 := (y 0).isLt
  have h1 : (y 1).val < 128 := (y 1).isLt
  have h2 : (y 2).val < 128 := (y 2).isLt
  have hn := n.isLt
  unfold pos group
  pointwise
  rw [dot_apply]
  refine (Finset.sum_congr rfl fun b _ => congrArg (· * _) (hx0 _ b)).trans ?_
  refine (Rotation.row_sum _ fun b => x1 (ix2 _ _)).trans ?_
  unfold blockRot Rotation.rotated
  refine congrArg (pw (-2) * ·) (Finset.sum_congr rfl fun k' _ => ?_)
  have hk := k'.isLt
  refine congr (congrArg HMul.hMul ?_) (congrArg x1 (idx2_ext ?_ ?_))
  · refine congrArg (Rotation.sign · k'.val) ?_
    show (n.val % 32 % 2 * 128 + n.val % 32 / 2 * 8 + (y 1).val % 8) % 128 / 8 * 2 + (n.val % 32 % 2 * 128 + n.val % 32 / 2 * 8 + (y 1).val % 8) / 128 = n.val
    exact place_of n.val (y 1).val hn
  · show (y 0).val * 128 + (y 2).val = 128 * (y 0).val + (y 2).val
    omega
  · show 1024 * ((y 1).val / 32) + 256 * ((y 1).val / 8 % 4) + (32 * ((n.val % 32 % 2 * 128 + n.val % 32 / 2 * 8 + (y 1).val % 8) % 8) + k'.val) = 32 * (y 1).val + k'.val
    have e8 : (n.val % 32 % 2 * 128 + n.val % 32 / 2 * 8 + (y 1).val % 8) % 8 = (y 1).val % 8 := by omega
    rw [e8]
    omega

/-- The row of the operand's block a scratch word belongs to. -/
def rowOf (y : S2x128x128.Idx) : Fin 256 := ⟨128 * (y 0).val + (y 2).val, by
  have h0 : (y 0).val < 2 := (y 0).isLt
  have h2 : (y 2).val < 128 := (y 2).isLt
  omega⟩

/-- A scratch word of codes is the code of its block. -/
theorem codes_apply (y : S2x128x128.Idx) :
    codes (F := Ideal) arg2 harg2 arg3 harg3 x0 x1 y = BitVec.ofNat 32 (code (blockRot x1 (rowOf y) (y 1))) := by
  unfold codes scr codeV
  exact TileRead.code_eq fun n => pos_eq arg2 harg2 arg3 harg3 x0 x1 hx0 y n

open scoped Classical in
/-- A scratch word of masks holds one bit per element of its block. -/
theorem masks_apply (y : S2x128x128.Idx) (i : Fin 32) :
    (masks (F := Ideal) arg2 harg2 arg3 harg3 x0 x1 y).getLsbD i.val = decide (inside (blockRot x1 (rowOf y) (y 1)) i) := by
  unfold masks scr maskV
  rw [TileRead.mask_eq (s := blockRot x1 (rowOf y) (y 1)) (fun n => pos_eq arg2 harg2 arg3 harg3 x0 x1 hx0 y n) 32 (le_refl _) i]
  exact decide_eq_decide.2 (and_iff_right i.isLt)

/-- A stored scale byte. -/
theorem scale_apply (y : S256x128.Idx) :
    scaleAt (codes (F := Ideal) arg2 harg2 arg3 harg3 x0 x1) y
      = (BitVec.ofNat 32 (code (blockRot x1 (y 0) (y 1)))).setWidth 8 := by
  unfold scaleAt
  rw [codes_apply arg2 harg2 arg3 harg3 x0 x1 hx0]
  refine congrArg (fun r : Fin 256 => (BitVec.ofNat 32 (code (blockRot x1 r (y 1)))).setWidth 8) (Fin.ext ?_)
  show 128 * ((y 0).val / 128) + (y 0).val % 128 = (y 0).val
  omega

/-- A stored mask byte. -/
theorem byte_apply (y : S256x512.Idx) :
    byteAt (masks (F := Ideal) arg2 harg2 arg3 harg3 x0 x1) y
      = byte fun j => inside (blockRot x1 (y 0) ⟨(y 1).val / 4, by have h : (y 1).val < 512 := (y 1).isLt; omega⟩) ⟨8 * ((y 1).val % 4) + j.val, by omega⟩ := by
  unfold byteAt
  refine (byte_of_bits _ _ (Nat.mod_lt _ (by decide)) _ fun i => masks_apply arg2 harg2 arg3 harg3 x0 x1 hx0 _ i).trans ?_
  refine congrArg (fun r : Fin 256 => byte fun j : Fin 8 => inside (blockRot x1 r ⟨(y 1).val / 4, by have h : (y 1).val < 512 := (y 1).isLt; omega⟩) ⟨8 * ((y 1).val % 4) + j.val, by omega⟩) (Fin.ext ?_)
  show 128 * ((y 0).val / 128) + (y 0).val % 128 = (y 0).val
  omega

end Cert.XDot

end
-- ==== Proof.XRef.lean ====
/- The reference's masks and scales of `x`, at an element: the specification's, of the rotated group the element stands for. -/
module

public import proofs.«01_k».proof.Proof.Gen.QuantisedXIdeal.Read
public import proofs.«01_k».proof.Proof.Rotation
public import Idealize.ShloMosaic.Lib.Pointwise

@[expose] public section

set_option maxRecDepth 16384

noncomputable section

namespace Cert.XRef

open Cert.QuantisedXIdeal Cert.QuantisedXIdeal.Gen Cert.QuantisedXIdeal.Read Idealize.ShloMosaic Cert.Spec
open scoped Classical

variable (x0 : (⟨S4608x16384, .bf16⟩ : BufTy).Contents (Elt Ideal))

/-- The rotated values of block `b` of row `r`. -/
def rot (r : Fin 4608) (b : Fin 512) : Fin 32 → EReal :=
  Rotation.rotated fun k => x0 (ix2 r ⟨32 * b.val + k.val, by omega⟩)

theorem one_eq : Ideal.ofBits .f32 0x3F800000#32 = 1 := by
  have := bits_pw 127 (by decide) (by decide)
  simpa [pw] using this

theorem minus_one_eq : Ideal.ofBits .f32 0xBF800000#32 = -1 := by
  simp [Ideal.ofBits, Ideal.ieee]
  rw [← EReal.coe_mul]
  norm_num

/-- The reference's table of signs. -/
theorem signs (i : S32x32.Idx) : val_main_v13 (F := Ideal) i = Rotation.sign (i 0).val (i 1).val := by
  rw [val_main_v13_apply, val_main_v12_apply, val_main_v11_apply, val_main_v9_apply, val_main_v7_apply, val_main_v6_apply,
    val_main_v4_apply, val_main_v2_apply, val_main_v1_apply, val_main_v5_apply, val_main_v3_apply, val_main_v1_apply,
    val_main_v8_apply, val_main_v10_apply, val_main_call0_v0_apply, val_main_call0_v1_apply]
  show Scalar.select _ (Ideal.ofBits .f32 0x3F800000#32) (Ideal.ofBits .f32 0xBF800000#32) = _
  rw [one_eq, minus_one_eq]
  rfl

theorem rot_eq (i : S4608x512x32.Idx) : val_main_v14 (F := Ideal) x0 i = rot x0 (i 0) (i 1) (i 2) := by
  rw [val_main_v14_apply]
  unfold rot Rotation.rotated
  refine Finset.sum_congr rfl fun k _ => ?_
  rw [signs, val_main_v0_apply, mul_comm]
  refine congrArg₂ (· * ·) (Rotation.sign_comm _ _) (congrArg x0 (funext fun a => Fin.ext ?_))
  have h0 : (i 0).val < 4608 := (i 0).isLt
  have h1 : (i 1).val < 512 := (i 1).isLt
  have hk := k.isLt
  match a with
  | ⟨0, _⟩ => show (((i 0).val * 512 + (i 1).val) * 32 + k.val) / 16384 = (i 0).val; omega
  | ⟨1, _⟩ => show (((i 0).val * 512 + (i 1).val) * 32 + k.val) % 16384 = 32 * (i 1).val + k.val; omega

theorem rms_ref (i : S4608x512.Idx) : val_main_v19 (F := Ideal) x0 i = rms (rot x0 (i 0) (i 1)) := by
  rw [val_main_v19_apply, val_main_v18_apply, val_main_v16_apply, val_main_v17_apply]
  show Ideal.sqrt ((Ideal.ofBits .f32 0x00000000#32 + ∑ k : Fin 32, val_main_v15 (F := Ideal) x0 (idx_main_v16 i k)) * Ideal.ofBits .f32 0x3A800000#32) = _
  rw [Ideal.ofBits_zero_f32, zero_add]
  unfold rms
  refine congrArg (fun z => Ideal.sqrt (z * _)) (Finset.sum_congr rfl fun k _ => ?_)
  rw [val_main_v15_apply, rot_eq]
  rfl

theorem amp_ref (i : S4608x512.Idx) : val_main_v23 (F := Ideal) x0 i = amp (rot x0 (i 0) (i 1)) := by
  rw [val_main_v23_apply, val_main_v21_apply, val_main_v20_apply, val_main_v22_apply, rms_ref]
  rfl

/-- The table of powers. -/
theorem power_ref (i : S252.Idx) : val_main_v29 (F := Ideal) i = pw (((i 0).val : ℤ) - 125) := by
  have hw : ∀ m : Fin 252, (IntOp.addi 4294967171#32 (BitVec.ofNat 32 m.val)).toInt = (m.val : ℤ) - 125 := by decide +kernel
  rw [val_main_v29_apply, val_main_v28_apply, val_main_v27_apply, val_main_v26_apply, val_main_v25_apply, val_main_v24_apply]
  show Ideal.pow (Ideal.ofBits .f32 0x40000000#32) (((IntOp.addi 4294967171#32 (BitVec.ofNat 32 (i 0).val)).toInt : ℝ) : EReal) = _
  rw [hw (i 0), pow_two]

/-- Whether the power at a place of the table is not above a block's amplitude. -/
theorem bit_ref (i : S4608x512x252.Idx) : val_main_v35 (F := Ideal) x0 i
    = (BitVec.ofBool (decide (pw (((i 2).val : ℤ) - 125) ≤ amp (rot x0 (i 0) (i 1))))).setWidth 32 := by
  rw [val_main_v35_apply, val_main_v34_apply, val_main_v32_apply, val_main_v30_apply, val_main_v33_apply,
    val_main_v31_apply, power_ref, amp_ref]
  rfl

theorem count_ref (i : S4608x512.Idx) : val_main_v36 (F := Ideal) x0 i = BitVec.ofNat 32 (count (amp (rot x0 (i 0) (i 1)))) := by
  unfold val_main_v36
  have hR : S4608x512x252.Reduces [2] S4608x512 := by decide
  rw [Host.reduce_eq_fold_single IntOp.addi _ _ reducesTo_S4608x512x252_S4608x512_d2 hR h_S_ i]
  refine count_word _ _ fun m => ?_
  have e : (hR.lift i m) = ix3 (i 0) (i 1) m :=
    funext fun a => Fin.ext (by match a with | ⟨0, _⟩ => rfl | ⟨1, _⟩ => rfl | ⟨2, _⟩ => rfl)
  exact (congrArg (val_main_v35 (F := Ideal) x0) e).trans (bit_ref x0 (ix3 (i 0) (i 1) m))

/-- The exponent's word. -/
theorem code_ref (i : S4608x512.Idx) : val_main_v41 (F := Ideal) x0 i = BitVec.ofNat 32 (code (rot x0 (i 0) (i 1))) - 127#32 := by
  have hw : ∀ m : Fin 253, IntOp.subi (BitVec.ofNat 32 m.val) 126#32 = BitVec.ofNat 32 (1 + m.val) - 127#32 := by decide +kernel
  rw [val_main_v41_apply, val_main_v38_apply, val_main_v40_apply, rms_ref, count_ref, val_main_v39_apply, val_main_v37_apply,
    val_main_call1_v1_apply]
  show Scalar.select (BitVec.ofBool (decide (rms (rot x0 (i 0) (i 1)) = Ideal.ofBits .f32 0x00000000#32))) 0#32
    (IntOp.subi (BitVec.ofNat 32 (count (amp (rot x0 (i 0) (i 1))))) 126#32) = _
  rw [Ideal.ofBits_zero_f32, hw ⟨count (amp (rot x0 (i 0) (i 1))), by have := count_le (amp (rot x0 (i 0) (i 1))); omega⟩]
  unfold code Scalar.select
  by_cases h : rms (rot x0 (i 0) (i 1)) = 0
  · simp [h]
  · simp [h]

/-- The scales: the exponent codes, as bytes. -/
theorem scale_ref (i : S4608x512.Idx) : val_main_v64 (F := Ideal) x0 i = (BitVec.ofNat 32 (code (rot x0 (i 0) (i 1)))).setWidth 8 := by
  rw [val_main_v64_apply, val_main_v63_apply, code_ref, val_main_v62_apply]
  show (BitVec.ofNat 32 (code (rot x0 (i 0) (i 1))) - 127#32 + 127#32).setWidth 8 = _
  rw [BitVec.sub_add_cancel]

theorem scaled_ref (i : S4608x512x32.Idx) : val_main_v50 (F := Ideal) x0 i = scaled (rot x0 (i 0) (i 1)) (i 2) := by
  have hw : ∀ m : Fin 254, (-(BitVec.ofNat 32 m.val - 127#32)).toInt = 127 - (m.val : ℤ) := by decide +kernel
  rw [val_main_v50_apply, val_main_v43_apply, val_main_v42_apply, val_main_v49_apply, val_main_v48_apply, val_main_v47_apply,
    val_main_v46_apply, val_main_v45_apply, val_main_v44_apply, code_ref, rot_eq]
  have hc := code_le (rot x0 (i 0) (i 1))
  have hp : Ideal.pow (Ideal.ofBits .f32 0x40000000#32)
      (((-(BitVec.ofNat 32 (code (rot x0 (i 0) (i 1))) - 127#32)).toInt : ℝ) : EReal) = pw (127 - (code (rot x0 (i 0) (i 1)) : ℤ)) := by
    rw [hw ⟨code (rot x0 (i 0) (i 1)), by omega⟩, pow_two]
  unfold scaled
  rw [← hp]
  rfl

theorem inside_bit (s : Fin 32 → EReal) (n : Fin 32) :
    FloatOps.cmpf (F := Ideal) (φ := .f32) .ole (FloatOps.hostAbsf (F := Ideal) (φ := .f32) (scaled s n)) (Ideal.ofBits .f32 0x40C00000#32)
      = BitVec.ofBool (decide (inside s n)) := by
  refine congrArg BitVec.ofBool ?_
  exact decide_eq_decide.2 Iff.rfl

/-- The bit of a place, shifted to its position in its byte. -/
theorem place_ref (i : S4608x2048x8.Idx) : val_main_v59 (F := Ideal) x0 i
    = IntOp.shli .host ((BitVec.ofBool (decide (inside (rot x0 (i 0) ⟨(i 1).val / 4, by have h : (i 1).val < 2048 := (i 1).isLt; omega⟩)
        ⟨8 * ((i 1).val % 4) + (i 2).val, by have h : (i 2).val < 8 := (i 2).isLt; omega⟩))).setWidth 32) (BitVec.ofNat 32 (i 2).val) := by
  have h0 : (i 0).val < 4608 := (i 0).isLt
  have h1 : (i 1).val < 2048 := (i 1).isLt
  have hj : (i 2).val < 8 := (i 2).isLt
  have ei : idx_main_v54 i = (ix3 (i 0) ⟨(i 1).val / 4, by omega⟩ ⟨8 * ((i 1).val % 4) + (i 2).val, by omega⟩ : S4608x512x32.Idx) :=
    funext fun a => Fin.ext (by
      match a with
      | ⟨0, _⟩ => show (((i 0).val * 2048 + (i 1).val) * 8 + (i 2).val) / 16384 = (i 0).val; omega
      | ⟨1, _⟩ => show (((i 0).val * 2048 + (i 1).val) * 8 + (i 2).val) / 32 % 512 = (i 1).val / 4; omega
      | ⟨2, _⟩ => show (((i 0).val * 2048 + (i 1).val) * 8 + (i 2).val) % 32 = 8 * ((i 1).val % 4) + (i 2).val; omega)
  rw [val_main_v59_apply, val_main_v55_apply, val_main_v54_apply, ei, val_main_v58_apply, val_main_v57_apply,
    val_main_v56_apply, val_main_v53_apply, val_main_v51_apply, val_main_v52_apply, scaled_ref]
  exact congrArg (fun b => IntOp.shli .host (BitVec.setWidth 32 b) (BitVec.ofNat 32 (i 2).val)) (inside_bit _ _)

/-- The masks: byte `q` of a row's blocks holds the bits of its eight places. -/
theorem mask_ref (i : S4608x2048.Idx) : val_main_v61 (F := Ideal) x0 i
    = byte fun j => inside (rot x0 (i 0) ⟨(i 1).val / 4, by have h : (i 1).val < 2048 := (i 1).isLt; omega⟩) ⟨8 * ((i 1).val % 4) + j.val, by omega⟩ := by
  rw [val_main_v61_apply]
  unfold val_main_v60
  have hR : S4608x2048x8.Reduces [2] S4608x2048 := by decide
  rw [Host.reduce_eq_fold_single IntOp.addi _ _ reducesTo_S4608x2048x8_S4608x2048_d2 hR h_S_ i]
  refine byte_word _ _ fun j => ?_
  have e : (hR.lift i j) = ix3 (i 0) (i 1) j :=
    funext fun a => Fin.ext (by match a with | ⟨0, _⟩ => rfl | ⟨1, _⟩ => rfl | ⟨2, _⟩ => rfl)
  exact (congrArg (val_main_v59 (F := Ideal) x0) e).trans (place_ref x0 (ix3 (i 0) (i 1) j))

end Cert.XRef

end
-- ==== Proof.XValue.lean ====
/- THE VALUE of the quantiser's call for `x`: the arrays of mask bytes and scale bytes the kernel leaves are the reference's. -/
module

public import proofs.«01_k».proof.Proof.XDot
public import proofs.«01_k».proof.Proof.XRef
public import proofs.«01_k».proof.Proof.Gen.QuantXIdeal.Value

@[expose] public section

set_option maxRecDepth 16384

noncomputable section

namespace Cert.XValue

open Idealize.ShloMosaic Idealize.ShloMosaic.TcCoe Idealize.SL.Sem Cert.QuantXIdeal Cert.QuantXIdeal.Gen Cert.Tile Cert.XBlocks Cert.XDot Cert.Spec
open scoped Classical

variable (m : (ℓ : Loc nD τ sig) → Buf (Elt Ideal) ℓ) (c : Dev nD)

/-- The operand as the call finds it. -/
def xArr : FVec Ideal S4608x16384 .bf16 := m ((c : Thread nD τ).loc main_arg0)

/-- The rotation's block at a point: the whole matrix. -/
def rotAt (t : Fin cfg0.N) : FVec Ideal S256x256 .bf16 := iblk m c 0 t

/-- The operand's block at a point. -/
def xAt (t : Fin cfg0.N) : FVec Ideal S256x4096 .bf16 := iblk m c 1 t

theorem rot_index : ∀ t : Fin grid0.N, win0_0.index t = ![0, 0] := by decide +kernel
theorem x_index : ∀ t : Fin grid0.N, win0_1.index t = ![t.val / 4, t.val % 4] := by decide +kernel
theorem mask_index : ∀ t : Fin grid0.N, win0_4.index t = ![t.val / 4, t.val % 4] := by decide +kernel
theorem scale_index : ∀ t : Fin grid0.N, win0_5.index t = ![t.val / 4, t.val % 4] := by decide +kernel

theorem rotAt_apply (t : Fin cfg0.N) (a b : Fin 256) : rotAt m c t (ix2 a b) = Rotation.entry (F := Ideal) a.val b.val := by
  unfold rotAt
  refine Eq.trans (b := (V m c main_v28 : FVec Ideal S256x256 .bf16) (ix2 a b)) ?_ (XRot.rotation_at m c (ix2 a b))
  blk_ext [iblk, rot_index]

theorem xAt_apply (t : Fin cfg0.N) (a : Fin 256) (b : Fin 4096) :
    xAt m c t (ix2 a b) = xArr m c (ix2 ⟨256 * (t.val / 4) + a.val, by have h : t.val < 72 := t.isLt; omega⟩ ⟨4096 * (t.val % 4) + b.val, by omega⟩) := by
  unfold xAt xArr
  rw [← V_main_arg0 m c]
  blk_ext [iblk, x_index]

/-- The block of rotated values, in the whole operand. -/
theorem blockRot_eq (t : Fin cfg0.N) (r : Fin 256) (b : Fin 128) :
    blockRot (xAt m c t) r b = XRef.rot (xArr m c) ⟨256 * (t.val / 4) + r.val, by have h : t.val < 72 := t.isLt; omega⟩ ⟨128 * (t.val % 4) + b.val, by omega⟩ := by
  unfold blockRot XRef.rot
  refine congrArg Rotation.rotated (funext fun k => ?_)
  rw [xAt_apply]
  refine congrArg (xArr m c) (idx2_ext rfl ?_)
  show 4096 * (t.val % 4) + (32 * b.val + k.val) = 32 * (128 * (t.val % 4) + b.val) + k.val
  omega

/-- The scales a point writes back. -/
theorem scales_at (t : Fin cfg0.N) (y : S256x128.Idx) :
    (outsAt0 m c t).2.2.2 y = (BitVec.ofNat 32 (code (blockRot (xAt m c t) (y 0) (y 1)))).setWidth 8 := by
  unfold outsAt0
  dsimp only
  rw [out_scales]
  exact scale_apply _ _ _ _ (rotAt m c t) (xAt m c t) (rotAt_apply m c t) y

/-- The masks a point writes back. -/
theorem masks_at (t : Fin cfg0.N) (y : S256x512.Idx) :
    (outsAt0 m c t).2.2.1 y = byte fun j => inside (blockRot (xAt m c t) (y 0) ⟨(y 1).val / 4, by have h : (y 1).val < 512 := (y 1).isLt; omega⟩) ⟨8 * ((y 1).val % 4) + j.val, by omega⟩ := by
  unfold outsAt0
  dsimp only
  rw [out_masks]
  exact byte_apply _ _ _ _ (rotAt m c t) (xAt m c t) (rotAt_apply m c t) y

/-- They are the reference's. -/
theorem scales_ref (t : Fin cfg0.N) (y : S256x128.Idx) :
    (outsAt0 m c t).2.2.2 y = Cert.QuantisedXIdeal.Read.val_main_v64 (F := Ideal) (xArr m c)
      (ix2 ⟨256 * (t.val / 4) + (y 0).val, by have h : t.val < 72 := t.isLt; have h0 : (y 0).val < 256 := (y 0).isLt; omega⟩
        ⟨128 * (t.val % 4) + (y 1).val, by have h1 : (y 1).val < 128 := (y 1).isLt; omega⟩) := by
  rw [scales_at]
  refine (congrArg (fun s => (BitVec.ofNat 32 (code s)).setWidth 8) (blockRot_eq m c t (y 0) (y 1))).trans ?_
  exact (XRef.scale_ref (xArr m c) (ix2 _ _)).symm

theorem masks_ref (t : Fin cfg0.N) (y : S256x512.Idx) :
    (outsAt0 m c t).2.2.1 y = Cert.QuantisedXIdeal.Read.val_main_v61 (F := Ideal) (xArr m c)
      (ix2 ⟨256 * (t.val / 4) + (y 0).val, by have h : t.val < 72 := t.isLt; have h0 : (y 0).val < 256 := (y 0).isLt; omega⟩
        ⟨512 * (t.val % 4) + (y 1).val, by have h1 : (y 1).val < 512 := (y 1).isLt; omega⟩) := by
  rw [masks_at, XRef.mask_ref (xArr m c) (ix2 _ _)]
  refine congrArg byte (funext fun j => ?_)
  have h1 : (y 1).val < 512 := (y 1).isLt
  refine (congrArg (fun s => inside s _) (blockRot_eq m c t (y 0) ⟨(y 1).val / 4, by omega⟩)).trans ?_
  refine congrArg₂ (fun b q => inside (XRef.rot (xArr m c) _ b) q) (Fin.ext ?_) (Fin.ext ?_)
  · show 128 * (t.val % 4) + (y 1).val / 4 = (512 * (t.val % 4) + (y 1).val) / 4
    omega
  · show 8 * ((y 1).val % 4) + j.val = 8 * ((512 * (t.val % 4) + (y 1).val) % 4) + j.val
    omega

/-- The scales the kernel leaves. -/
theorem scales_eq : (dats m 0 c).arrAt 5 cfg0.N = Cert.QuantisedXIdeal.Read.val_main_v64 (F := Ideal) (xArr m c) := by
  refine (dats m 0 c).arrAt_eq_of_covers 5 _ (by decide +kernel) fun t hf y => ?_
  blk_simp
  rw [after0_5]
  refine (scales_ref m c t y).trans ?_
  generalize Cert.QuantisedXIdeal.Read.val_main_v64 (F := Ideal) (xArr m c) = A
  blk_ext [scale_index]

/-- The masks the kernel leaves. -/
theorem masks_eq : (dats m 0 c).arrAt 4 cfg0.N = Cert.QuantisedXIdeal.Read.val_main_v61 (F := Ideal) (xArr m c) := by
  refine (dats m 0 c).arrAt_eq_of_covers 4 _ (by decide +kernel) fun t hf y => ?_
  blk_simp
  rw [after0_4]
  refine (masks_ref m c t y).trans ?_
  generalize Cert.QuantisedXIdeal.Read.val_main_v61 (F := Ideal) (xArr m c) = A
  blk_ext [mask_index]

end Cert.XValue

end
-- ==== Proof.CodeTile.lean ====
/- The E2M1 codes the quantiser's body makes of one rotated tile, as vectors. Each of the 32 places of a block is scaled, clipped
   to ±6 and rounded by adding and subtracting a large power; the even places and the odd places become two arrays of float8
   bytes, whose rows four by four are words; a word of packed bytes takes an even place in its low and an odd place in its high
   half of each byte. The operations are the kernel's, in its order, at any reading of the floats. -/
module

public import proofs.«01_k».proof.Proof.Tile

@[expose] public section

noncomputable section

namespace Cert.Tile

open Idealize.ShloMosaic

abbrev W128 : Shape := ⟨2, ![128, 128]⟩
abbrev W32 : Shape := ⟨2, ![32, 128]⟩

variable {F : FTy → Type} [FloatOps F]

/-- The power of two of a value from 1 up to 6 in magnitude. -/
def powerV (c : FVec F T8 .f32) : FVec F T8 .f32 :=
  select (cmpf .oge (absf c) (broadcast T8 (Scalar.ofBits .f32 0x40800000#32))) (broadcast T8 (Scalar.ofBits .f32 0x40800000#32))
    (select (cmpf .oge (absf c) (broadcast T8 (Scalar.ofBits .f32 0x40000000#32))) (broadcast T8 (Scalar.ofBits .f32 0x40000000#32))
      (broadcast T8 (Scalar.ofBits .f32 0x3F800000#32)))

/-- What is added and subtracted to round. -/
def bigV (c : FVec F T8 .f32) : FVec F T8 .f32 :=
  mulf (maximumf (powerV c) (broadcast T8 (Scalar.ofBits .f32 0x3F800000#32))) (broadcast T8 (Scalar.ofBits .f32 0x4AC00000#32))

def roundV (c : FVec F T8 .f32) : FVec F T8 .f32 := subf (addf c (bigV c)) (bigV c)

/-- The rounded value at place `n`. -/
def valueV (p : ℕ → FVec F T8 .f32) (mult : FVec F T8 .f32) (n : ℕ) : FVec F T8 .f32 := roundV (clipV (mulf (p n) mult))

theorem concat16 : Shape.Concatenates [T8, T8, T8, T8, T8, T8, T8, T8, T8, T8, T8, T8, T8, T8, T8, T8] W128 0 := by decide
theorem concat4 : Shape.Concatenates [W32, W32, W32, W32] W128 0 := by decide
theorem bitcasts8 : W128.Bitcasts 8 W32 32 := by decide
theorem transposes128 : W128.Transposes [1, 0] W128 := by decide

/-- The even places (`h = 0`) or the odd ones (`h = 1`), eight rows each. -/
def halfV (q : ℕ → FVec F T8 .f32) (h : ℕ) : FVec F W128 .f32 :=
  concatenate W128 0 [⟨T8, q (0 + h)⟩, ⟨T8, q (2 + h)⟩, ⟨T8, q (4 + h)⟩, ⟨T8, q (6 + h)⟩, ⟨T8, q (8 + h)⟩, ⟨T8, q (10 + h)⟩, ⟨T8, q (12 + h)⟩,
    ⟨T8, q (14 + h)⟩, ⟨T8, q (16 + h)⟩, ⟨T8, q (18 + h)⟩, ⟨T8, q (20 + h)⟩, ⟨T8, q (22 + h)⟩, ⟨T8, q (24 + h)⟩, ⟨T8, q (26 + h)⟩,
    ⟨T8, q (28 + h)⟩, ⟨T8, q (30 + h)⟩] concat16

/-- Four for each of the levels that is not above `a`. -/
def countV (a : FVec F W128 .f32) : List (BitVec 32) → IVec W128 32 → IVec W128 32
  | [], b => b
  | v :: l, b => countV a l (select (cmpf .oge a (broadcast W128 (Scalar.ofBits .f32 v))) (addi b (broadcast W128 4#32)) b)

/-- The positive E2M1 numbers. -/
def levels : List (BitVec 32) :=
  [0x3F000000#32, 0x3F800000#32, 0x3FC00000#32, 0x40000000#32, 0x40400000#32, 0x40800000#32, 0x40C00000#32]

/-- The float8 byte of a sixty-fourth of each value. -/
def byteV (v : FVec F W128 .f32) : IVec W128 8 :=
  trunci 8 (select (cmpf .olt v (broadcast W128 (Scalar.ofBits .f32 0x00000000#32)))
    (ori (countV (absf v) levels (broadcast W128 0#32)) (broadcast W128 4294967168#32)) (countV (absf v) levels (broadcast W128 0#32))) (by decide)

/-- A half of the places through the float8 format. -/
def eighthV (v : FVec F W128 .f32) : FVec F W128 .f32 :=
  mulf (extf .f32 (truncf .fp8e4m3 (mulf (truncf .bf16 v (by decide)) (broadcast W128 (Scalar.ofBits .bf16 0x3C80#16))) (by decide)) (by decide))
    (broadcast W128 (Scalar.ofBits .f32 0x42800000#32))

/-- Its bytes, four rows in a word. -/
def wordV (v : FVec F W128 .f32) : IVec W32 32 := bitcast W32 32 (byteV (eighthV v)) bitcasts8

/-- Words of even places and words of odd places, packed. -/
def packV (e o : IVec W32 32) : IVec W32 32 :=
  ori (ori (andi (shrsi e (broadcast W32 2#32)) (broadcast W32 117901063#32)) (andi (shrsi e (broadcast W32 4#32)) (broadcast W32 134744072#32)))
    (ori (andi (shli o (broadcast W32 2#32)) (broadcast W32 1886417008#32)) (andi o (broadcast W32 2155905152#32)))

def placesV (d : FVec F T256 .f32) (g : Fin 2) : ℕ → FVec F T8 .f32 := valueV (pos d g) (multV (codeP (pos d g)))

/-- The packed words of a tile. -/
def nibblesV (d : FVec F T256 .f32) (g : Fin 2) : IVec W32 32 := packV (wordV (halfV (placesV d g) 0)) (wordV (halfV (placesV d g) 1))

/-- The words of four tiles, turned so that rows are the operand's. -/
def fourV (w : Fin 4 → IVec W32 32) : IVec W128 32 :=
  transpose W128 [1, 0] (concatenate W128 0 [⟨W32, w 0⟩, ⟨W32, w 1⟩, ⟨W32, w 2⟩, ⟨W32, w 3⟩] concat4) transposes128

/-- The word each byte of a tile's codes comes from, by its lane. -/
def sourceV (u : BitVec 32) (lane : IVec W128 32) : IVec W128 32 :=
  addi (addi (broadcast W128 u) (muli (andi lane (broadcast W128 15#32)) (broadcast W128 2#32))) (shrsi lane (broadcast W128 6#32))

/-- A tile's bytes of codes. -/
def packedV (u : BitVec 32) (lane w : IVec W128 32) : IVec W128 8 :=
  trunci 8 (shrsi (dynamicGather 1 w (shapeCast W128 (shapeCast (⟨3, ![128, 128, 1]⟩ : Shape)
      (select (cmpi .slt (sourceV u lane) (broadcast W128 0#32)) (addi (sourceV u lane) (broadcast W128 128#32)) (sourceV u lane))
      (by decide)) (by decide)))
    (muli (andi (shrsi lane (broadcast W128 4#32)) (broadcast W128 3#32)) (broadcast W128 8#32))) (by decide)

end Cert.Tile

end
-- ==== Proof.XCodePieces.lean ====
/- What one trip of the loop of the quantiser's body for `x` stores of the codes: of each of its four rotated tiles and each
   group of 128 rows, the bytes of `CodeTile`. -/
module
public import proofs.«01_k».proof.Proof.XPieces
public import proofs.«01_k».proof.Proof.CodeTile
@[expose] public section
noncomputable section
namespace Cert.XCodePieces
open Idealize.ShloMosaic Cert.QuantXIdeal Cert.QuantXIdeal.Gen Cert.Tile Cert.XPieces
variable {F : FTy → Type} [FloatOps F]

variable (arg2 : Memref sig .tc .vmem S256x256 .bf16) (arg3 : Memref sig .tc .vmem S256x4096 .bf16) (X_arg2 : BufTy.Contents (Elt F) arg2.view.ty) (X_arg3 : BufTy.Contents (Elt F) arg3.view.ty) (k : Fin k0_t1_loop.trips)

/-- The eight blocks of codes a trip stores, of what it computes of tile `t` and group `g`. -/
def codePieces (f : Fin 4 → Fin 2 → IVec W128 8) : List (View.Piece (Elt F) S256x2048 .i8) :=
  [⟨Rect.unit (s := S256x2048) (k0_off7 k 384#32) S128x128.size (k0_off7_inb k 3), f 3 1⟩,
   ⟨Rect.unit (s := S256x2048) (k0_off7 k 256#32) S128x128.size (k0_off7_inb k 2), f 2 1⟩,
   ⟨Rect.unit (s := S256x2048) (k0_off7 k 128#32) S128x128.size (k0_off7_inb k 1), f 1 1⟩,
   ⟨Rect.unit (s := S256x2048) (k0_off7 k 0#32) S128x128.size (k0_off7_inb k 0), f 0 1⟩,
   ⟨Rect.unit (s := S256x2048) (k0_off6 k 384#32) S128x128.size (k0_off6_inb k 3), f 3 0⟩,
   ⟨Rect.unit (s := S256x2048) (k0_off6 k 256#32) S128x128.size (k0_off6_inb k 2), f 2 0⟩,
   ⟨Rect.unit (s := S256x2048) (k0_off6 k 128#32) S128x128.size (k0_off6_inb k 1), f 1 0⟩,
   ⟨Rect.unit (s := S256x2048) (k0_off6 k 0#32) S128x128.size (k0_off6_inb k 0), f 0 0⟩]

variable (𝒱 : Variants) (c : Dev nD) (bd : Option 𝒱.V) (i : grid0.Coords) (harg2 : arg2.IsWhole) (harg3 : arg3.IsWhole) (arg4 : Memref sig .tc .vmem S256x4096 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)

theorem nibbles_trip (v0) : (trip_k0_t1 (F := F) 𝒱 c bd i arg2 harg2 arg3 harg3 arg4 harg4 arg5 harg5 arg6 harg6 arg7 harg7 arg8 harg8 arg9 harg9 v0 X_arg2 X_arg3 k).2.1
    = codePieces k fun t g => packedV (BitVec.ofNat 32 (32 * t.val)) v0 (fourV fun t => nibblesV (dot arg2 arg3 X_arg2 X_arg3 k t) g) := by
  unfold trip_k0_t1
  sl_kernel_rfl
end Cert.XCodePieces
end
-- ==== Proof.XCodeBlocks.lean ====
/- What a point of the quantiser's grid for `x` writes of the codes, at an index: the byte of the trip, tile and group the
   index lies in. -/
module

public import proofs.«01_k».proof.Proof.XBlocks
public import proofs.«01_k».proof.Proof.XCodePieces

@[expose] public section

set_option maxRecDepth 16384

noncomputable section

namespace Cert.XCodeBlocks

open Idealize.ShloMosaic Cert.QuantXIdeal Cert.QuantXIdeal.Gen Cert.Tile Cert.XPieces Cert.XScratch Cert.XCodePieces

variable {F : FTy → Type} [FloatOps F]

/-- The array of what trip `k` stores of tile `t` and group `g`. -/
def laid (f : Fin k0_t1_loop.trips → Fin 4 → Fin 2 → IVec W128 8) (y : S256x2048.Idx) : BitVec 8 :=
  f ⟨(y 1).val / 512, by have h : (y 1).val < 2048 := (y 1).isLt; rw [trips_eq]; omega⟩ ⟨(y 1).val / 128 % 4, Nat.mod_lt _ (by decide)⟩
    ⟨(y 0).val / 128, by have h : (y 0).val < 256 := (y 0).isLt; omega⟩
    (ix2 ⟨(y 0).val % 128, Nat.mod_lt _ (by decide)⟩ ⟨(y 1).val % 128, Nat.mod_lt _ (by decide)⟩)

theorem piece_laid (f : Fin k0_t1_loop.trips → Fin 4 → Fin 2 → IVec W128 8) (k : Fin k0_t1_loop.trips) (t : Fin 4) (g : Fin 2)
    (off : Fin 2 → ℕ) (inb : ∀ a, off a + S128x128.size a ≤ S256x2048.size a) (h : off = ![128 * g.val, 512 * k.val + 128 * t.val]) (x : S128x128.Idx) :
    f k t g x = laid f ((Rect.unit (s := S256x2048) off S128x128.size inb).emb x) := by
  subst h
  have h0 : (x 0).val < 128 := (x 0).isLt
  have h1 : (x 1).val < 128 := (x 1).isLt
  have hk : k.val < 4 := trips_eq ▸ k.isLt
  have ht := t.isLt
  have hg := g.isLt
  have e := ValueKit.rect_emb_unit_val (s := S256x2048) ![128 * g.val, 512 * k.val + 128 * t.val] S128x128.size inb x
  generalize (Rect.unit (s := S256x2048) ![128 * g.val, 512 * k.val + 128 * t.val] S128x128.size inb).emb x = y at e ⊢
  have e0 : (y 0).val = 128 * g.val + (x 0).val := e 0
  have e1 : (y 1).val = 512 * k.val + 128 * t.val + (x 1).val := e 1
  unfold laid
  have hk' : (⟨(y 1).val / 512, by have h : (y 1).val < 2048 := (y 1).isLt; rw [trips_eq]; omega⟩ : Fin k0_t1_loop.trips) = k :=
    Fin.ext (by show (y 1).val / 512 = _; omega)
  have ht' : (⟨(y 1).val / 128 % 4, Nat.mod_lt _ (by decide)⟩ : Fin 4) = t := Fin.ext (by show (y 1).val / 128 % 4 = _; omega)
  have hg' : (⟨(y 0).val / 128, by have h : (y 0).val < 256 := (y 0).isLt; omega⟩ : Fin 2) = g := Fin.ext (by show (y 0).val / 128 = _; omega)
  rw [hk', ht', hg']
  exact congrArg (f k t g) (idx2_ext (by show (x 0).val = (y 0).val % 128; omega) (by show (x 1).val = (y 1).val % 128; omega))

theorem codePieces_laid (f : Fin k0_t1_loop.trips → Fin 4 → Fin 2 → IVec W128 8) (k : Fin k0_t1_loop.trips) :
    ∀ p ∈ codePieces (F := F) k (f k), ∀ x : p.1.shape.Idx, p.2 x = laid f (p.1.emb x) := by
  intro p hp
  unfold codePieces at hp
  simp only [List.mem_cons, List.not_mem_nil, or_false] at hp
  rcases hp with rfl | rfl | rfl | rfl | rfl | rfl | rfl | rfl
  · exact piece_laid f k 3 1 _ (k0_off7_inb k 3) (k0_off7_eq k 3)
  · exact piece_laid f k 2 1 _ (k0_off7_inb k 2) (k0_off7_eq k 2)
  · exact piece_laid f k 1 1 _ (k0_off7_inb k 1) (k0_off7_eq k 1)
  · exact piece_laid f k 0 1 _ (k0_off7_inb k 0) (k0_off7_eq k 0)
  · exact piece_laid f k 3 0 _ (k0_off6_inb k 3) (k0_off6_eq k 3)
  · exact piece_laid f k 2 0 _ (k0_off6_inb k 2) (k0_off6_eq k 2)
  · exact piece_laid f k 1 0 _ (k0_off6_inb k 1) (k0_off6_eq k 1)
  · exact piece_laid f k 0 0 _ (k0_off6_inb k 0) (k0_off6_eq k 0)

/-- All the pieces, the last trip's first. -/
def allCodePieces (f : Fin k0_t1_loop.trips → Fin 4 → Fin 2 → IVec W128 8) : List (View.Piece (Elt F) S256x2048 .i8) :=
  codePieces (trip 3) (f (trip 3)) ++ (codePieces (trip 2) (f (trip 2)) ++ (codePieces (trip 1) (f (trip 1)) ++ (codePieces (trip 0) (f (trip 0)) ++ [])))

theorem allCodePieces_laid (f : Fin k0_t1_loop.trips → Fin 4 → Fin 2 → IVec W128 8) :
    ∀ p ∈ allCodePieces (F := F) f, ∀ x : p.1.shape.Idx, p.2 x = laid f (p.1.emb x) := by
  intro p hp
  unfold allCodePieces at hp
  simp only [List.mem_append, List.not_mem_nil, or_false] at hp
  rcases hp with h | h | h | h
  · exact codePieces_laid f _ p h
  · exact codePieces_laid f _ p h
  · exact codePieces_laid f _ p h
  · exact codePieces_laid f _ p h

variable (arg2 : Memref sig .tc .vmem S256x256 .bf16) (arg3 : Memref sig .tc .vmem S256x4096 .bf16) (X_arg2 : BufTy.Contents (Elt F) arg2.view.ty) (X_arg3 : BufTy.Contents (Elt F) arg3.view.ty)
variable (𝒱 : Variants) (c : Dev nD) (bd : Option 𝒱.V) (i : grid0.Coords) (harg2 : arg2.IsWhole) (harg3 : arg3.IsWhole) (arg4 : Memref sig .tc .vmem S256x4096 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)

theorem nibbles_pieces (v0) : (pb_k0_t1 (F := F) 𝒱 c bd i arg2 harg2 arg3 harg3 arg4 harg4 arg5 harg5 arg6 harg6 arg7 harg7 arg8 harg8 arg9 harg9 v0 X_arg2 X_arg3 4).2.1
    = allCodePieces (F := F) fun k t g => packedV (BitVec.ofNat 32 (32 * t.val)) v0 (fourV fun t => nibblesV (dot arg2 arg3 X_arg2 X_arg3 k t) g) := by
  have h := fun k => congrArg (fun p => p.2.1) (pb_k0_t1_succ (F := F) 𝒱 c bd i arg2 harg2 arg3 harg3 arg4 harg4 arg5 harg5 arg6 harg6 arg7 harg7 arg8 harg8 arg9 harg9 v0 X_arg2 X_arg3 k)
  dsimp only at h
  simp only [nibbles_trip] at h
  have h3 := h (trip 3); have h2 := h (trip 2); have h1 := h (trip 1); have h0 := h (trip 0)
  refine h3.trans ?_
  unfold allCodePieces
  refine congrArg _ (h2.trans (congrArg _ (h1.trans (congrArg _ (h0.trans (congrArg _ ?_))))))
  rfl

variable (x0 : Vec F S256x256 .bf16) (x1 : Vec F S256x4096 .bf16)

/-- The lane a lane is. -/
def lanes : IVec W128 32 := iota .tc S128x128 32 [1] iota_S128x128_d1_w32

theorem lanes_apply (j : W128.Idx) : lanes j = BitVec.ofNat 32 (j 1).val := by
  unfold lanes
  pointwise

/-- The bytes of codes a point's trips store. -/
def bytes : S256x2048.Idx → BitVec 8 := laid fun k t g => packedV (BitVec.ofNat 32 (32 * t.val)) lanes
  (fourV fun t => nibblesV (dot (F := F) arg2 arg3 (harg2.unread x0) (harg3.unread x1) k t) g)

theorem out_codes (y : S256x2048.Idx) :
    out0_A_3 (F := F) c i arg2 harg2 arg3 harg3 arg4 harg4 arg5 harg5 arg6 harg6 arg7 harg7 arg8 harg8 arg9 harg9 x0 x1 y
      = bytes arg2 arg3 harg2 harg3 x0 x1 y := by
  unfold out0_A_3
  rw [View.read_writes_apply_eq_canon _ _ _ _ (cover0_A_3 c i arg2 harg2 arg3 harg3 arg4 harg4 arg5 harg5 arg6 harg6 arg7 harg7 arg8 harg8 arg9 harg9 x0 x1 y)]
  refine View.canon_apply_of_pieces (Val := Elt F) (bytes arg2 arg3 harg2 harg3 x0 x1) _ ?_ y
    (cover0_A_3 c i arg2 harg2 arg3 harg3 arg4 harg4 arg5 harg5 arg6 harg6 arg7 harg7 arg8 harg8 arg9 harg9 x0 x1 y)
  unfold kernelRun0_A
  dsimp only [kernelRun0_A.sl.v0]
  rw [XBlocks.trips4, nibbles_pieces]
  exact allCodePieces_laid _

end Cert.XCodeBlocks

end
-- ==== Proof.CodeSpec.lean ====
/- The E2M1 code of a clipped value at the extended reals: how many of the positive E2M1 numbers are not above its magnitude, and
   eight more if it is negative. The host's formula for the index of a magnitude, truncated, is that number. -/
module

public import proofs.«01_k».proof.Proof.Spec

@[expose] public section

noncomputable section

namespace Cert.Spec

open Idealize.ShloMosaic
open scoped Classical

/-- The value, clipped to ±6. -/
def clipped (v : EReal) : EReal := min (Ideal.ofBits .f32 0x40C00000#32) (max (Ideal.ofBits .f32 0xC0C00000#32) v)

/-- How many of the numbers in a list are not above `a`. -/
def levelOf (a : EReal) : List (BitVec 32) → ℕ
  | [] => 0
  | b :: l => (if Ideal.ofBits .f32 b ≤ a then 1 else 0) + levelOf a l

/-- How many of 0.5, 1, 1.5, 2, 3, 4, 6 are not above `a`. -/
def level (a : EReal) : ℕ :=
  levelOf a [0x3F000000#32, 0x3F800000#32, 0x3FC00000#32, 0x40000000#32, 0x40400000#32, 0x40800000#32, 0x40C00000#32]

theorem levelOf_le (a : EReal) : ∀ l : List (BitVec 32), levelOf a l ≤ l.length
  | [] => Nat.le_refl _
  | b :: l => by
    have := levelOf_le a l
    unfold levelOf
    rw [List.length_cons]
    split <;> omega

theorem level_lt (a : EReal) : level a < 8 := by
  have h : level a ≤ 7 := levelOf_le a _
  omega

/-- The four bits of a clipped value: its level and its sign. -/
def nibble (c : EReal) : ℕ := level (max c (-c)) + if c < 0 then 8 else 0

theorem nibble_lt (c : EReal) : nibble c < 16 := by
  have := level_lt (max c (-c))
  unfold nibble
  split <;> omega

/-- Two codes in a byte, the first the lower. -/
def codePair (a b : EReal) : BitVec 8 := BitVec.ofNat 8 (nibble a + 16 * nibble b)

/-- The codes of places `2 j` and `2 j + 1` of a block. -/
def codesAt (s : Fin 32 → EReal) (j : Fin 16) : BitVec 8 :=
  codePair (clipped (scaled s ⟨2 * j.val, by omega⟩)) (clipped (scaled s ⟨2 * j.val + 1, by omega⟩))

theorem six_real : Ideal.ofBits .f32 0x40C00000#32 = ((6 : ℝ) : EReal) := by
  simp [Ideal.ofBits, Ideal.ieee]; rw [← EReal.coe_mul]; norm_num
theorem minus_six_real : Ideal.ofBits .f32 0xC0C00000#32 = ((-6 : ℝ) : EReal) := by
  simp [Ideal.ofBits, Ideal.ieee]; rw [← EReal.coe_mul]; norm_num
theorem half_real : Ideal.ofBits .f32 0x3F000000#32 = ((1 / 2 : ℝ) : EReal) := by
  simp [Ideal.ofBits, Ideal.ieee]; rw [← EReal.coe_mul]; norm_num
theorem one_real : Ideal.ofBits .f32 0x3F800000#32 = ((1 : ℝ) : EReal) := by
  simp [Ideal.ofBits, Ideal.ieee]
  try (rw [← EReal.coe_mul]; norm_num)
theorem three_halves_real : Ideal.ofBits .f32 0x3FC00000#32 = ((3 / 2 : ℝ) : EReal) := by
  simp [Ideal.ofBits, Ideal.ieee]; rw [← EReal.coe_mul]; norm_num
theorem two_real : Ideal.ofBits .f32 0x40000000#32 = ((2 : ℝ) : EReal) := by
  simp [Ideal.ofBits, Ideal.ieee]; rw [← EReal.coe_mul]; norm_num
theorem three_real : Ideal.ofBits .f32 0x40400000#32 = ((3 : ℝ) : EReal) := by
  simp [Ideal.ofBits, Ideal.ieee]; rw [← EReal.coe_mul]; norm_num
theorem four_real : Ideal.ofBits .f32 0x40800000#32 = ((4 : ℝ) : EReal) := by
  simp [Ideal.ofBits, Ideal.ieee]; rw [← EReal.coe_mul]; norm_num

/-- A clipped value is a real number of at most 6 in magnitude. -/
theorem clipped_real (v : EReal) : ∃ r : ℝ, clipped v = r ∧ -6 ≤ r ∧ r ≤ 6 := by
  unfold clipped
  rw [six_real, minus_six_real]
  induction v with
  | bot => exact ⟨-6, by rw [max_eq_left bot_le, min_eq_right (EReal.coe_le_coe_iff.2 (by norm_num))], by norm_num, by norm_num⟩
  | top => exact ⟨6, by rw [max_eq_right le_top, min_eq_left le_top], by norm_num, by norm_num⟩
  | coe r =>
    refine ⟨min 6 (max (-6) r), ?_, le_min (by norm_num) (le_max_left _ _), min_le_left _ _⟩
    rw [← EReal.coe_strictMono.monotone.map_max, ← EReal.coe_strictMono.monotone.map_min]

/-- The level of a real. -/
theorem level_coe (a : ℝ) : level (a : EReal) = (if 1 / 2 ≤ a then 1 else 0) + ((if 1 ≤ a then 1 else 0) + ((if 3 / 2 ≤ a then 1 else 0)
    + ((if 2 ≤ a then 1 else 0) + ((if 3 ≤ a then 1 else 0) + ((if 4 ≤ a then 1 else 0) + ((if 6 ≤ a then 1 else 0) + 0)))))) := by
  unfold level
  simp only [levelOf, half_real, one_real, three_halves_real, two_real, three_real, four_real, six_real, EReal.coe_le_coe_iff]

/-- The index formula of a magnitude, before it is truncated. -/
def indexOf (a : ℝ) : ℝ := if a < 2 then a * 2 else if a < 4 then a + 2 else a * (1 / 2) + 4

/-- Truncated, it is the level. -/
theorem floor_index (a : ℝ) (h0 : 0 ≤ a) (h6 : a ≤ 6) : ⌊indexOf a⌋ = (level (a : EReal) : ℤ) := by
  rw [level_coe, Int.floor_eq_iff]
  unfold indexOf
  rcases lt_or_ge a (1 / 2) with h | h1
  · rw [if_neg (by linarith), if_neg (by linarith), if_neg (by linarith), if_neg (by linarith), if_neg (by linarith), if_neg (by linarith),
      if_neg (by linarith), if_pos (by linarith)]
    constructor <;> norm_num <;> linarith
  rcases lt_or_ge a 1 with h | h2
  · rw [if_pos (by linarith), if_neg (by linarith), if_neg (by linarith), if_neg (by linarith), if_neg (by linarith), if_neg (by linarith),
      if_neg (by linarith), if_pos (by linarith)]
    constructor <;> norm_num <;> linarith
  rcases lt_or_ge a (3 / 2) with h | h3
  · rw [if_pos (by linarith), if_pos (by linarith), if_neg (by linarith), if_neg (by linarith), if_neg (by linarith), if_neg (by linarith),
      if_neg (by linarith), if_pos (by linarith)]
    constructor <;> norm_num <;> linarith
  rcases lt_or_ge a 2 with h | h4
  · rw [if_pos (by linarith), if_pos (by linarith), if_pos (by linarith), if_neg (by linarith), if_neg (by linarith), if_neg (by linarith),
      if_neg (by linarith), if_pos (by linarith)]
    constructor <;> norm_num <;> linarith
  rcases lt_or_ge a 3 with h | h5
  · rw [if_pos (by linarith), if_pos (by linarith), if_pos (by linarith), if_pos (by linarith), if_neg (by linarith), if_neg (by linarith),
      if_neg (by linarith), if_neg (by linarith), if_pos (by linarith)]
    constructor <;> norm_num <;> linarith
  rcases lt_or_ge a 4 with h | h6'
  · rw [if_pos (by linarith), if_pos (by linarith), if_pos (by linarith), if_pos (by linarith), if_pos (by linarith), if_neg (by linarith),
      if_neg (by linarith), if_neg (by linarith), if_pos (by linarith)]
    constructor <;> norm_num <;> linarith
  rcases lt_or_ge a 6 with h | h7
  · rw [if_pos (by linarith), if_pos (by linarith), if_pos (by linarith), if_pos (by linarith), if_pos (by linarith), if_pos (by linarith),
      if_neg (by linarith), if_neg (by linarith), if_neg (by linarith)]
    constructor <;> norm_num <;> linarith
  · rw [if_pos (by linarith), if_pos (by linarith), if_pos (by linarith), if_pos (by linarith), if_pos (by linarith), if_pos (by linarith),
      if_pos (by linarith), if_neg (by linarith), if_neg (by linarith)]
    constructor <;> norm_num <;> linarith

theorem max_neg_coe (r : ℝ) : max (r : EReal) (-(r : EReal)) = ((|r| : ℝ) : EReal) := by
  rw [← EReal.coe_neg, ← EReal.coe_strictMono.monotone.map_max]
  rfl

theorem select_of (P : Prop) [Decidable P] {α : Type} (a b : α) : Scalar.select (BitVec.ofBool (decide P)) a b = if P then a else b := by
  unfold Scalar.select
  by_cases h : P <;> simp [h]

/-- The host's index of a clipped value, as a word. -/
theorem index_word (v : EReal) :
    Ideal.fptosi 32 (Scalar.select (BitVec.ofBool (decide (max (clipped v) (-clipped v) < Ideal.ofBits .f32 0x40000000#32)))
        (max (clipped v) (-clipped v) * Ideal.ofBits .f32 0x40000000#32)
        (Scalar.select (BitVec.ofBool (decide (max (clipped v) (-clipped v) < Ideal.ofBits .f32 0x40800000#32)))
          (max (clipped v) (-clipped v) + Ideal.ofBits .f32 0x40000000#32)
          (max (clipped v) (-clipped v) * Ideal.ofBits .f32 0x3F000000#32 + Ideal.ofBits .f32 0x40800000#32)))
      = BitVec.ofNat 32 (level (max (clipped v) (-clipped v))) := by
  obtain ⟨r, hr, h1, h2⟩ := clipped_real v
  have ha : |r| ≤ 6 := abs_le.2 ⟨h1, h2⟩
  have h0 := abs_nonneg r
  rw [hr, max_neg_coe, select_of, select_of, two_real, four_real, half_real]
  generalize |r| = a at ha h0
  have he : (if (a : EReal) < ((2 : ℝ) : EReal) then (a : EReal) * ((2 : ℝ) : EReal) else if (a : EReal) < ((4 : ℝ) : EReal)
      then (a : EReal) + ((2 : ℝ) : EReal) else (a : EReal) * ((1 / 2 : ℝ) : EReal) + ((4 : ℝ) : EReal)) = ((indexOf a : ℝ) : EReal) := by
    unfold indexOf
    simp only [EReal.coe_lt_coe_iff]
    split
    · exact (EReal.coe_mul _ _).symm
    · split
      · exact (EReal.coe_add _ _).symm
      · rw [EReal.coe_add, EReal.coe_mul]
  rw [he]
  unfold Ideal.fptosi
  have hi : 0 ≤ indexOf a := by
    unfold indexOf
    split
    · linarith
    · split <;> linarith
  have hl := level_lt (a : EReal)
  rw [Ideal.toIntClamped_coe, if_pos hi, floor_index a h0 ha, min_eq_right (by push_cast; omega), max_eq_right (by push_cast; omega)]
  exact BitVec.ofInt_natCast ..

/-- A clipped value with its sign shifted up, as a word. -/
theorem nibble_word (c : EReal) :
    IntOp.ori (BitVec.ofNat 32 (level (max c (-c)))) (IntOp.shli .host ((BitVec.ofBool (decide (c < Ideal.ofBits .f32 0x00000000#32))).setWidth 32) 3#32)
      = BitVec.ofNat 32 (nibble c) := by
  have h : ∀ (n : Fin 8) (b : Bool), IntOp.ori (BitVec.ofNat 32 n.val) (IntOp.shli .host ((BitVec.ofBool b).setWidth 32) 3#32)
      = BitVec.ofNat 32 (n.val + if b = true then 8 else 0) := by decide +kernel
  rw [Ideal.ofBits_zero_f32]
  refine (h ⟨level (max c (-c)), level_lt _⟩ _).trans ?_
  unfold nibble
  simp

/-- Two words of codes, as a byte. -/
theorem pair_word (a b : EReal) :
    (IntOp.ori (BitVec.ofNat 32 (nibble a)) (IntOp.shli .host (BitVec.ofNat 32 (nibble b)) 4#32)).setWidth 8 = codePair a b := by
  have h : ∀ n m : Fin 16, (IntOp.ori (BitVec.ofNat 32 n.val) (IntOp.shli .host (BitVec.ofNat 32 m.val) 4#32)).setWidth 8
      = BitVec.ofNat 8 (n.val + 16 * m.val) := by decide +kernel
  exact h ⟨nibble a, nibble_lt a⟩ ⟨nibble b, nibble_lt b⟩

end Cert.Spec

end
-- ==== Proof.XCodeRef.lean ====
/- The reference's codes of `x`, at an element: the specification's, of the rotated group the element stands for. -/
module

public import proofs.«01_k».proof.Proof.XRef
public import proofs.«01_k».proof.Proof.CodeSpec

@[expose] public section

set_option maxRecDepth 16384

noncomputable section

namespace Cert.XCodeRef

open Cert.QuantisedXIdeal Cert.QuantisedXIdeal.Gen Cert.QuantisedXIdeal.Read Idealize.ShloMosaic Cert.Spec Cert.XRef
open scoped Classical

variable (x0 : (⟨S4608x16384, .bf16⟩ : BufTy).Contents (Elt Ideal))

/-- The clipped value of an element. -/
def val (i : S4608x512x32.Idx) : EReal := clipped (scaled (rot x0 (i 0) (i 1)) (i 2))

theorem clip_ref (i : S4608x512x32.Idx) : val_main_v65 (F := Ideal) x0 i = val x0 i := by
  rw [val_main_v65_apply, val_main_call2_v4_apply, val_main_call2_v3_apply, val_main_call2_v2_apply, val_main_call2_v1_apply,
    val_main_call2_v0_apply, scaled_ref]
  rfl

theorem abs_ref (i : S4608x512x32.Idx) : val_main_v66 (F := Ideal) x0 i = max (val x0 i) (-val x0 i) := by
  rw [val_main_v66_apply, clip_ref]
  rfl

/-- The index of its magnitude. -/
theorem index_ref (i : S4608x512x32.Idx) : val_main_v81 (F := Ideal) x0 i = BitVec.ofNat 32 (level (max (val x0 i) (-val x0 i))) := by
  rw [val_main_v81_apply, val_main_v80_apply, val_main_v68_apply, val_main_v70_apply, val_main_v79_apply, val_main_v72_apply,
    val_main_v74_apply, val_main_v78_apply, val_main_v76_apply, abs_ref, val_main_v67_apply, val_main_v69_apply, val_main_v71_apply,
    val_main_v73_apply, val_main_v75_apply, val_main_v77_apply]
  refine Eq.trans ?_ (index_word (scaled (rot x0 (i 0) (i 1)) (i 2)))
  rfl

/-- Its code. -/
theorem nibble_ref (i : S4608x512x32.Idx) : val_main_v87 (F := Ideal) x0 i = BitVec.ofNat 32 (nibble (val x0 i)) := by
  rw [val_main_v87_apply, index_ref, val_main_v86_apply, val_main_v84_apply, val_main_v83_apply, clip_ref, val_main_v82_apply,
    val_main_v85_apply]
  refine Eq.trans ?_ (nibble_word (val x0 i))
  rfl

/-- The code of one of the two places of a byte. -/
theorem half_ref (i : S4608x8192x2.Idx) : val_main_v88 (F := Ideal) x0 i
    = BitVec.ofNat 32 (nibble (clipped (scaled (rot x0 (i 0) ⟨(i 1).val / 16, by have h : (i 1).val < 8192 := (i 1).isLt; omega⟩)
        ⟨2 * ((i 1).val % 16) + (i 2).val, by have h : (i 2).val < 2 := (i 2).isLt; omega⟩))) := by
  have h0 : (i 0).val < 4608 := (i 0).isLt
  have h1 : (i 1).val < 8192 := (i 1).isLt
  have h2 : (i 2).val < 2 := (i 2).isLt
  have ei : idx_main_v88 i = (ix3 (i 0) ⟨(i 1).val / 16, by omega⟩ ⟨2 * ((i 1).val % 16) + (i 2).val, by omega⟩ : S4608x512x32.Idx) :=
    funext fun a => Fin.ext (by
      match a with
      | ⟨0, _⟩ => show (((i 0).val * 8192 + (i 1).val) * 2 + (i 2).val) / 16384 = (i 0).val; omega
      | ⟨1, _⟩ => show (((i 0).val * 8192 + (i 1).val) * 2 + (i 2).val) / 32 % 512 = (i 1).val / 16; omega
      | ⟨2, _⟩ => show (((i 0).val * 8192 + (i 1).val) * 2 + (i 2).val) % 32 = 2 * ((i 1).val % 16) + (i 2).val; omega)
  rw [val_main_v88_apply, ei, nibble_ref]
  rfl

/-- The codes: byte `q` of a row holds those of its two places. -/
theorem codes_ref (i : S4608x8192.Idx) : val_main_v96 (F := Ideal) x0 i
    = codesAt (rot x0 (i 0) ⟨(i 1).val / 16, by have h : (i 1).val < 8192 := (i 1).isLt; omega⟩) ⟨(i 1).val % 16, Nat.mod_lt _ (by decide)⟩ := by
  have h0 : (i 0).val < 4608 := (i 0).isLt
  have h1 : (i 1).val < 8192 := (i 1).isLt
  have e0 : idx_main_v89 (idx_main_v90 i) = (ix3 (i 0) (i 1) 0 : S4608x8192x2.Idx) :=
    funext fun a => Fin.ext (by
      match a with
      | ⟨0, _⟩ => show ((i 0).val * 8192 + (i 1).val) / 8192 = (i 0).val; omega
      | ⟨1, _⟩ => show ((i 0).val * 8192 + (i 1).val) / 1 % 8192 = (i 1).val; omega
      | ⟨2, _⟩ => rfl)
  have e1 : idx_main_v91 (idx_main_v92 i) = (ix3 (i 0) (i 1) 1 : S4608x8192x2.Idx) :=
    funext fun a => Fin.ext (by
      match a with
      | ⟨0, _⟩ => show ((i 0).val * 8192 + (i 1).val) / 8192 = (i 0).val; omega
      | ⟨1, _⟩ => show ((i 0).val * 8192 + (i 1).val) / 1 % 8192 = (i 1).val; omega
      | ⟨2, _⟩ => rfl)
  rw [val_main_v96_apply, val_main_v95_apply, val_main_v90_apply, val_main_v89_apply, e0, half_ref, val_main_v94_apply,
    val_main_v92_apply, val_main_v91_apply, e1, half_ref, val_main_v93_apply]
  exact pair_word _ _

end Cert.XCodeRef

end
-- ==== Proof.CodeRead.lean ====
/- The codes of `CodeTile` at one byte and at the extended reals: the rounding by a large power does nothing there, and a byte
   holds the codes of two neighbouring places of a block. -/
module

public import proofs.«01_k».proof.Proof.CodeTile
public import proofs.«01_k».proof.Proof.CodeSpec
public import proofs.«01_k».proof.Proof.TileRead
public import Idealize.ShloMosaic.Lib.BitcastFour
public import Idealize.ShloMosaic.Lib.Pipeline.Value

@[expose] public section

set_option maxRecDepth 16384

noncomputable section

namespace Cert.CodeRead

open Idealize.ShloMosaic Cert.Tile Cert.Spec
open scoped Classical

theorem add_sub (c b : EReal) (hc : ∃ r : ℝ, c = r) (hb : ∃ r : ℝ, b = r) : c + b - b = c := by
  obtain ⟨r, rfl⟩ := hc
  obtain ⟨q, rfl⟩ := hb
  rw [← EReal.coe_add, ← EReal.coe_sub, add_sub_cancel_right]

/-- What is added to round is a real number. -/
theorem big_real (c : FVec Ideal T8 .f32) (j : T8.Idx) : ∃ r : ℝ, bigV c j = r := by
  have hk : ∃ r : ℝ, Ideal.ofBits .f32 0x4AC00000#32 = r := by
    refine ⟨6291456, ?_⟩
    simp [Ideal.ofBits, Ideal.ieee]
    rw [← EReal.coe_mul]
    norm_num
  obtain ⟨k, hk⟩ := hk
  have hp : ∃ r : ℝ, powerV c j = r := by
    have h : powerV c j = Scalar.select (BitVec.ofBool (decide (Ideal.ofBits .f32 0x40800000#32 ≤ max (c j) (-c j)))) (Ideal.ofBits .f32 0x40800000#32)
        (Scalar.select (BitVec.ofBool (decide (Ideal.ofBits .f32 0x40000000#32 ≤ max (c j) (-c j)))) (Ideal.ofBits .f32 0x40000000#32)
          (Ideal.ofBits .f32 0x3F800000#32)) := by
      unfold powerV; pointwise; rfl
    rw [h, select_of, select_of]
    split
    · exact ⟨_, four_real⟩
    · split
      · exact ⟨_, two_real⟩
      · exact ⟨_, one_real⟩
  have hm : ∃ r : ℝ, max (powerV c j) (Ideal.ofBits .f32 0x3F800000#32) = r := by
    rcases max_choice (powerV c j) (Ideal.ofBits .f32 0x3F800000#32) with h | h
    · rw [h]; exact hp
    · rw [h]; exact ⟨_, one_real⟩
  obtain ⟨m, hm⟩ := hm
  have h : bigV c j = max (powerV c j) (Ideal.ofBits .f32 0x3F800000#32) * Ideal.ofBits .f32 0x4AC00000#32 := by
    unfold bigV; pointwise
  exact ⟨m * k, by rw [h, hm, hk, EReal.coe_mul]⟩

theorem round_eq (c : FVec Ideal T8 .f32) (j : T8.Idx) (hc : ∃ r : ℝ, c j = r) : roundV c j = c j := by
  have h : roundV c j = c j + bigV c j - bigV c j := by unfold roundV; pointwise
  rw [h, add_sub _ _ hc (big_real c j)]

/-- The value at a place: clipped, of the specification's scaled value. -/
theorem value_eq {p : ℕ → FVec Ideal T8 .f32} {j : T8.Idx} {s : Fin 32 → EReal} (hp : ∀ n : Fin 32, p n.val j = pw (-2) * s n) (n : Fin 32) :
    valueV p (multV (codeP p)) n.val j = clipped (scaled s n) := by
  have hv : p n.val j * multV (codeP p) j = scaled s n := by
    rw [hp n, TileRead.mult_eq _ (code s) (code_pos s) (code_le s) (TileRead.code_eq hp)]
    unfold scaled
    have h4 : pw (-2) * pw 2 = 1 := by rw [pw_mul]; simp [pw]
    calc pw (-2) * s n * (pw (127 - (code s : ℤ)) * (Ideal.ofBits .f32 0x3E3504F3#32 * pw 2))
        = (pw (-2) * pw 2) * (s n * Ideal.ofBits .f32 0x3E3504F3#32 * pw (127 - (code s : ℤ))) := by ac_rfl
      _ = _ := by rw [h4, one_mul]
  have hc : clipV (mulf (p n.val) (multV (codeP p))) j = clipped (scaled s n) := by
    rw [← hv]
    unfold clipV clipped
    pointwise
  unfold valueV
  rw [round_eq _ _ (by rw [hc]; obtain ⟨r, hr, _⟩ := clipped_real (scaled s n); exact ⟨r, hr⟩), hc]

/-- A row of a half is a place's. -/
theorem half_apply (q : ℕ → FVec Ideal T8 .f32) (h : ℕ) (i : W128.Idx) :
    halfV q h i = q (2 * ((i 0).val / 8) + h) (ix2 ⟨(i 0).val % 8, Nat.mod_lt _ (by decide)⟩ (i 1)) := by
  have hi : (i 0).val < 128 := (i 0).isLt
  exact concatenate_ofFn_apply (α := EReal) (t := W128) (s₁ := T8) 0 (N := 16) (fun n => q (2 * n.val + h)) concat16 rfl 8 rfl i ⟨(i 0).val / 8, by omega⟩ rfl
    (ix2 ⟨(i 0).val % 8, Nat.mod_lt _ (by decide)⟩ (i 1)) rfl (fun b hb => by
      match b with
      | ⟨0, _⟩ => exact absurd rfl hb
      | ⟨1, _⟩ => rfl)

theorem eighth_eq (v : FVec Ideal W128 .f32) (i : W128.Idx) : eighthV v i = v i := by
  have h : eighthV v i = v i * Ideal.ofBits .bf16 0x3C80#16 * Ideal.ofBits .f32 0x42800000#32 := by
    unfold eighthV; pointwise
  have h1 : Ideal.ofBits .bf16 0x3C80#16 * Ideal.ofBits .f32 0x42800000#32 = 1 := by
    simp [Ideal.ofBits, Ideal.ieee]
    rw [← EReal.coe_mul, ← EReal.coe_mul, ← EReal.coe_mul]
    norm_num
  rw [h, mul_assoc, h1, mul_one]

/-- Four for every level reached. -/
theorem count_eq (a : FVec Ideal W128 .f32) (i : W128.Idx) : ∀ (l : List (BitVec 32)) (b : IVec W128 32) (n : ℕ), b i = BitVec.ofNat 32 (4 * n) →
    countV a l b i = BitVec.ofNat 32 (4 * (n + levelOf (a i) l))
  | [], _, _, h => h
  | v :: l, b, n, h => by
    unfold countV levelOf
    have hs : select (cmpf .oge a (broadcast W128 (Scalar.ofBits .f32 v))) (addi b (broadcast W128 4#32)) b i
        = Scalar.select (BitVec.ofBool (decide (Ideal.ofBits .f32 v ≤ a i))) (b i + 4#32) (b i) := by pointwise; rfl
    rw [select_of] at hs
    rw [count_eq a i l _ (n + if Ideal.ofBits .f32 v ≤ a i then 1 else 0) ?_, Nat.add_assoc]
    rw [hs, h]
    split
    · rw [← BitVec.ofNat_add]
      exact congrArg (BitVec.ofNat 32) (by ring)
    · rfl

/-- The byte of a value: its level twice doubled, and its sign on top. -/
def byteOf (c : EReal) : BitVec 8 := BitVec.ofNat 8 (4 * level (max c (-c)) + if c < 0 then 128 else 0)

theorem byte_eq (v : FVec Ideal W128 .f32) (i : W128.Idx) : byteV v i = byteOf (v i) := by
  have hc := count_eq (absf v) i levels (broadcast W128 0#32) 0 rfl
  have h : byteV v i = (Scalar.select (BitVec.ofBool (decide (v i < Ideal.ofBits .f32 0x00000000#32)))
      (IntOp.ori (countV (absf v) levels (broadcast W128 0#32) i) 4294967168#32) (countV (absf v) levels (broadcast W128 0#32) i)).setWidth 8 := by
    unfold byteV; pointwise
  have hd : ∀ (n : Fin 8) (b : Bool), (if b = true then IntOp.ori (BitVec.ofNat 32 (4 * n.val)) 4294967168#32 else BitVec.ofNat 32 (4 * n.val)).setWidth 8
      = BitVec.ofNat 8 (4 * n.val + if b = true then 128 else 0) := by decide +kernel
  rw [h, hc, select_of, Ideal.ofBits_zero_f32, Nat.zero_add]
  have := hd ⟨level (max (v i) (-v i)), level_lt _⟩ (decide (v i < 0))
  simp only [decide_eq_true_eq] at this
  exact this

/-- A byte of the even places and a byte of the odd ones, packed. -/
def packByte (x y : BitVec 8) : BitVec 8 := ((x >>> 2 &&& 7#8) ||| (x >>> 4 &&& 8#8)) ||| ((y <<< 2 &&& 112#8) ||| (y &&& 128#8))

theorem packByte_eq (a b : EReal) : packByte (byteOf a) (byteOf b) = codePair a b := by
  have h : ∀ (n m : Fin 8) (x y : Bool), packByte (BitVec.ofNat 8 (4 * n.val + if x = true then 128 else 0)) (BitVec.ofNat 8 (4 * m.val + if y = true then 128 else 0))
      = BitVec.ofNat 8 ((n.val + if x = true then 8 else 0) + 16 * (m.val + if y = true then 8 else 0)) := by decide +kernel
  have := h ⟨_, level_lt (max a (-a))⟩ ⟨_, level_lt (max b (-b))⟩ (decide (a < 0)) (decide (b < 0))
  simp only [decide_eq_true_eq] at this
  exact this

/-- Byte `k` of a word. -/
def byteAt (w : BitVec 32) (k : ℕ) : BitVec 8 := (w.sshiftRight (8 * k)).setWidth 8

theorem byteAt_bit (w : BitVec 32) (k : Fin 4) (j : Fin 8) : (byteAt w k.val).getLsbD j.val = w.getLsbD (8 * k.val + j.val) := by
  unfold byteAt
  rw [BitVec.getLsbD_setWidth, BitVec.getLsbD_sshiftRight]
  simp [show j.val < 8 from j.isLt, show ¬ 32 ≤ j.val by omega, show 8 * k.val + j.val < 32 by omega]

/-- Two words, packed. -/
def packWord (e o : BitVec 32) : BitVec 32 :=
  ((e.sshiftRight 2 &&& 117901063#32) ||| (e.sshiftRight 4 &&& 134744072#32)) ||| ((o <<< 2 &&& 1886417008#32) ||| (o &&& 2155905152#32))

theorem pack_apply (e o : IVec W32 32) (i : W32.Idx) : packV e o i = packWord (e i) (o i) := by
  have h : packV e o i = IntOp.ori (IntOp.ori (IntOp.andi (IntOp.shrsi .vector (e i) 2#32) 117901063#32) (IntOp.andi (IntOp.shrsi .vector (e i) 4#32) 134744072#32))
      (IntOp.ori (IntOp.andi (IntOp.shli .vector (o i) 2#32) 1886417008#32) (IntOp.andi (o i) 2155905152#32)) := by
    unfold packV; pointwise
  rw [h]
  rfl

theorem packWord_byte (e o : BitVec 32) (k : Fin 4) : byteAt (packWord e o) k.val = packByte (byteAt e k.val) (byteAt o k.val) := by
  refine BitVec.eq_of_getLsbD_eq fun j hj => ?_
  obtain ⟨k, hk⟩ := k
  unfold byteAt packWord packByte
  simp only [BitVec.getLsbD_setWidth, BitVec.getLsbD_or, BitVec.getLsbD_and, BitVec.getLsbD_sshiftRight, BitVec.getLsbD_shiftLeft, BitVec.getLsbD_ushiftRight]
  interval_cases k <;> interval_cases j <;> simp

/-- A byte of a word of a half is that of a row. -/
theorem word_byte (v : FVec Ideal W128 .f32) (a : Fin 32) (l : Fin 128) (k : Fin 4) :
    byteAt (wordV v (ix2 a l)) k.val = byteOf (v (ix2 ⟨4 * a.val + k.val, by omega⟩ l)) := by
  have hb : byteV (eighthV v) (ix2 ⟨4 * a.val + k.val, by omega⟩ l) = byteOf (v (ix2 ⟨4 * a.val + k.val, by omega⟩ l)) := by
    rw [byte_eq, eighth_eq]
  rw [← hb]
  refine BitVec.eq_of_getLsbD_eq fun j hj => ?_
  rw [byteAt_bit _ k ⟨j, hj⟩]
  refine (bitcast_8_32_getLsbD_ix2 (byteV (eighthV v)) bitcasts8 a l (8 * k.val + j) (by omega) ⟨4 * a.val + k.val, by omega⟩
    (by show 4 * a.val + k.val = 4 * a.val + (8 * k.val + j) / 8; omega)).trans ?_
  rw [show (8 * k.val + j) % 8 = j by omega]
  rfl

/-- A byte of a tile's packed words: the codes of two neighbouring places. -/
theorem nibbles_byte (d : FVec Ideal T256 .f32) (g : Fin 2) (a : Fin 32) (l : Fin 128) (k : Fin 4) :
    byteAt (nibblesV d g (ix2 a l)) k.val
      = codePair (placesV d g (2 * ((4 * a.val + k.val) / 8)) (ix2 ⟨(4 * a.val + k.val) % 8, Nat.mod_lt _ (by decide)⟩ l))
          (placesV d g (2 * ((4 * a.val + k.val) / 8) + 1) (ix2 ⟨(4 * a.val + k.val) % 8, Nat.mod_lt _ (by decide)⟩ l)) := by
  unfold nibblesV
  rw [pack_apply, packWord_byte, word_byte, word_byte, packByte_eq, half_apply, half_apply]
  rfl

/-- The words of four tiles, turned. -/
theorem four_apply (w : Fin 4 → IVec W32 32) (i : W128.Idx) :
    fourV w i = w ⟨(i 1).val / 32, by have h : (i 1).val < 128 := (i 1).isLt; omega⟩ (ix2 ⟨(i 1).val % 32, Nat.mod_lt _ (by decide)⟩ (i 0)) := by
  have hi : (i 1).val < 128 := (i 1).isLt
  unfold fourV
  refine (transpose_apply [1, 0] _ transposes128 i (ix2 (i 1) (i 0)) fun b => match b with | ⟨0, _⟩ => rfl | ⟨1, _⟩ => rfl).trans ?_
  exact concatenate_ofFn_apply (α := BitVec 32) (t := W128) (s₁ := W32) 0 (N := 4) (fun n => w n) concat4 rfl 32 rfl (ix2 (i 1) (i 0)) ⟨(i 1).val / 32, by omega⟩ rfl
    (ix2 ⟨(i 1).val % 32, Nat.mod_lt _ (by decide)⟩ (i 0)) rfl (fun b hb => by
      match b with
      | ⟨0, _⟩ => exact absurd rfl hb
      | ⟨1, _⟩ => rfl)

/-- A tile's byte of codes, from the turned words. -/
theorem packed_apply (t : Fin 4) (lane w : IVec W128 32) (hl : ∀ j : W128.Idx, lane j = BitVec.ofNat 32 (j 1).val) (j : W128.Idx) :
    packedV (BitVec.ofNat 32 (32 * t.val)) lane w j
      = byteAt (w (ix2 (j 0) ⟨32 * t.val + ((j 1).val % 16 * 2 + (j 1).val / 64), by have h : (j 1).val < 128 := (j 1).isLt; have := t.isLt; omega⟩))
          ((j 1).val / 16 % 4) := by
  have hs : ∀ (t : Fin 4) (l : Fin 128), (Scalar.select (IntOp.cmpi CmpIPredicate.slt (IntOp.addi (IntOp.addi (BitVec.ofNat 32 (32 * t.val))
      (IntOp.muli (IntOp.andi (BitVec.ofNat 32 l.val) 15#32) 2#32)) (IntOp.shrsi ArithUnit.vector (BitVec.ofNat 32 l.val) 6#32)) 0#32)
      (IntOp.addi (IntOp.addi (IntOp.addi (BitVec.ofNat 32 (32 * t.val))
        (IntOp.muli (IntOp.andi (BitVec.ofNat 32 l.val) 15#32) 2#32)) (IntOp.shrsi ArithUnit.vector (BitVec.ofNat 32 l.val) 6#32)) 128#32)
      (IntOp.addi (IntOp.addi (BitVec.ofNat 32 (32 * t.val))
        (IntOp.muli (IntOp.andi (BitVec.ofNat 32 l.val) 15#32) 2#32)) (IntOp.shrsi ArithUnit.vector (BitVec.ofNat 32 l.val) 6#32))).toNat % 128
      = 32 * t.val + (l.val % 16 * 2 + l.val / 64) := by decide +kernel
  have hk : ∀ l : Fin 128, (IntOp.muli (IntOp.andi (IntOp.shrsi ArithUnit.vector (BitVec.ofNat 32 l.val) 4#32) 3#32) 8#32).toNat = 8 * (l.val / 16 % 4) := by
    decide +kernel
  have hshr : ∀ {x y : BitVec 32} {k : ℕ}, y.toNat = k → k < 32 → IntOp.shrsi ArithUnit.vector x y = x.sshiftRight k := by
    intro x y k hy hk
    subst hy
    unfold IntOp.shrsi
    rw [if_pos hk]
    rfl
  unfold packedV sourceV
  pointwise
  simp only [hl]
  rw [hshr (hk (j 1)) (by omega)]
  unfold byteAt
  refine congrArg (fun x => BitVec.setWidth 8 (BitVec.sshiftRight x _)) (congrArg w (idx2_ext rfl ?_))
  exact hs t (j 1)

/-- A tile's byte of codes: of block `l / 16` of the tile, places `2 (l % 16)` and the next. -/
theorem packed_codes (d : Fin 4 → FVec Ideal T256 .f32) (g : Fin 2) (t : Fin 4) (lane : IVec W128 32)
    (hl : ∀ j : W128.Idx, lane j = BitVec.ofNat 32 (j 1).val) (j : W128.Idx) :
    packedV (BitVec.ofNat 32 (32 * t.val)) lane (fourV fun t => nibblesV (d t) g) j
      = codePair (placesV (d t) g (2 * ((j 1).val % 16)) (ix2 ⟨(j 1).val / 16, by have h : (j 1).val < 128 := (j 1).isLt; omega⟩ (j 0)))
          (placesV (d t) g (2 * ((j 1).val % 16) + 1) (ix2 ⟨(j 1).val / 16, by have h : (j 1).val < 128 := (j 1).isLt; omega⟩ (j 0))) := by
  have h1 : (j 1).val < 128 := (j 1).isLt
  have ht := t.isLt
  rw [packed_apply t lane _ hl j, four_apply]
  have e0 : (⟨(32 * t.val + ((j 1).val % 16 * 2 + (j 1).val / 64)) / 32, by omega⟩ : Fin 4) = t := Fin.ext (by show _ / 32 = _; omega)
  have e1 : (32 * t.val + ((j 1).val % 16 * 2 + (j 1).val / 64)) % 32 = (j 1).val % 16 * 2 + (j 1).val / 64 := by omega
  refine (congrArg₂ (fun (t : Fin 4) (a : Fin 32) => byteAt (nibblesV (d t) g (ix2 a (j 0))) ((j 1).val / 16 % 4)) e0
    (Fin.ext e1 : _ = (⟨(j 1).val % 16 * 2 + (j 1).val / 64, by omega⟩ : Fin 32))).trans ?_
  refine (nibbles_byte (d t) g _ (j 0) ⟨(j 1).val / 16 % 4, Nat.mod_lt _ (by decide)⟩).trans ?_
  have e2 : (4 * ((j 1).val % 16 * 2 + (j 1).val / 64) + (j 1).val / 16 % 4) / 8 = (j 1).val % 16 := by omega
  have e3 : (4 * ((j 1).val % 16 * 2 + (j 1).val / 64) + (j 1).val / 16 % 4) % 8 = (j 1).val / 16 := by omega
  refine congrArg₂ (fun (n : ℕ) (b : Fin 8) => codePair (placesV (d t) g (2 * n) (ix2 b (j 0))) (placesV (d t) g (2 * n + 1) (ix2 b (j 0)))) e2 (Fin.ext e3)

end Cert.CodeRead

end
-- ==== Proof.XCodeValue.lean ====
/- THE VALUE of the quantiser's call for `x`, of the codes: the array of bytes the kernel leaves is the reference's. -/
module

public import proofs.«01_k».proof.Proof.XValue
public import proofs.«01_k».proof.Proof.XCodeBlocks
public import proofs.«01_k».proof.Proof.XCodeRef
public import proofs.«01_k».proof.Proof.CodeRead

@[expose] public section

set_option maxRecDepth 16384

noncomputable section

namespace Cert.XCodeValue

open Idealize.ShloMosaic Idealize.ShloMosaic.TcCoe Idealize.SL.Sem Cert.QuantXIdeal Cert.QuantXIdeal.Gen Cert.Tile Cert.XPieces Cert.XScratch
  Cert.XCodeBlocks Cert.XDot Cert.XValue Cert.Spec
open scoped Classical

section Body

variable (arg2 : Memref sig .tc .vmem S256x256 .bf16) (harg2 : arg2.IsWhole) (arg3 : Memref sig .tc .vmem S256x4096 .bf16) (harg3 : arg3.IsWhole)
  (x0 : Vec Ideal S256x256 .bf16) (x1 : Vec Ideal S256x4096 .bf16)
  (hx0 : ∀ a b : Fin 256, x0 (ix2 a b) = Rotation.entry (F := Ideal) a.val b.val)
include hx0

/-- The clipped value at a place of the block a scratch index stands for. -/
theorem place_value (y : S2x128x128.Idx) (k : Fin k0_t1_loop.trips) (t : Fin 4) (b : Fin 8) (hk : k.val = (y 1).val / 32)
    (ht : t.val = (y 1).val / 8 % 4) (hb : b.val = (y 1).val % 8) (n : Fin 32) :
    placesV (dot (F := Ideal) arg2 arg3 (harg2.unread x0) (harg3.unread x1) k t) (y 0) n.val (ix2 b (y 2))
      = clipped (scaled (blockRot x1 (rowOf y) (y 1)) n) := by
  obtain ⟨k, hk'⟩ := k
  obtain ⟨t, ht'⟩ := t
  obtain ⟨b, hb'⟩ := b
  dsimp only at hk ht hb
  subst hk ht hb
  unfold placesV
  exact CodeRead.value_eq (s := blockRot x1 (rowOf y) (y 1)) (fun n => pos_eq arg2 harg2 arg3 harg3 x0 x1 hx0 y n) n

/-- A stored byte of codes. -/
theorem codes_apply (y : S256x2048.Idx) :
    bytes (F := Ideal) arg2 arg3 harg2 harg3 x0 x1 y
      = codesAt (blockRot x1 (y 0) ⟨(y 1).val / 16, by have h : (y 1).val < 2048 := (y 1).isLt; omega⟩) ⟨(y 1).val % 16, Nat.mod_lt _ (by decide)⟩ := by
  have h0 : (y 0).val < 256 := (y 0).isLt
  have h1 : (y 1).val < 2048 := (y 1).isLt
  have hs := place_value arg2 harg2 arg3 harg3 x0 x1 hx0
    (ix3 ⟨(y 0).val / 128, by omega⟩ ⟨(y 1).val / 16, by omega⟩ ⟨(y 0).val % 128, Nat.mod_lt _ (by decide)⟩)
  have hr : rowOf (ix3 ⟨(y 0).val / 128, by omega⟩ ⟨(y 1).val / 16, by omega⟩ ⟨(y 0).val % 128, Nat.mod_lt _ (by decide)⟩ : S2x128x128.Idx) = y 0 :=
    Fin.ext (by show 128 * ((y 0).val / 128) + (y 0).val % 128 = (y 0).val; omega)
  have hl : (y 1).val % 128 % 16 = (y 1).val % 16 := by omega
  unfold bytes laid
  refine (CodeRead.packed_codes (fun t => dot (F := Ideal) arg2 arg3 (harg2.unread x0) (harg3.unread x1)
    ⟨(y 1).val / 512, by rw [trips_eq]; omega⟩ t) _ ⟨(y 1).val / 128 % 4, Nat.mod_lt _ (by decide)⟩ lanes lanes_apply _).trans ?_
  unfold codesAt
  refine congrArg₂ codePair ?_ ?_
  · refine (congrArg (fun n => placesV _ _ (2 * n) _) hl).trans ?_
    refine (hs _ _ _ (by show (y 1).val / 512 = (y 1).val / 16 / 32; omega) (by show (y 1).val / 128 % 4 = (y 1).val / 16 / 8 % 4; omega)
      (by show (y 1).val % 128 / 16 = (y 1).val / 16 % 8; omega) ⟨2 * ((y 1).val % 16), by omega⟩).trans ?_
    exact congrArg (fun r => clipped (scaled (blockRot x1 r _) _)) hr
  · refine (congrArg (fun n => placesV _ _ (2 * n + 1) _) hl).trans ?_
    refine (hs _ _ _ (by show (y 1).val / 512 = (y 1).val / 16 / 32; omega) (by show (y 1).val / 128 % 4 = (y 1).val / 16 / 8 % 4; omega)
      (by show (y 1).val % 128 / 16 = (y 1).val / 16 % 8; omega) ⟨2 * ((y 1).val % 16) + 1, by omega⟩).trans ?_
    exact congrArg (fun r => clipped (scaled (blockRot x1 r _) _)) hr

end Body

variable (m : (ℓ : Loc nD τ sig) → Buf (Elt Ideal) ℓ) (c : Dev nD)

theorem codes_index : ∀ t : Fin grid0.N, win0_3.index t = ![t.val / 4, t.val % 4] := by decide +kernel

/-- The codes a point writes back. -/
theorem codes_at (t : Fin cfg0.N) (y : S256x2048.Idx) :
    (outsAt0 m c t).2.1 y = codesAt (blockRot (xAt m c t) (y 0) ⟨(y 1).val / 16, by have h : (y 1).val < 2048 := (y 1).isLt; omega⟩)
      ⟨(y 1).val % 16, Nat.mod_lt _ (by decide)⟩ := by
  unfold outsAt0
  dsimp only
  rw [out_codes]
  exact codes_apply _ _ _ _ (rotAt m c t) (xAt m c t) (rotAt_apply m c t) y

/-- They are the reference's. -/
theorem codes_ref (t : Fin cfg0.N) (y : S256x2048.Idx) :
    (outsAt0 m c t).2.1 y = Cert.QuantisedXIdeal.Read.val_main_v96 (F := Ideal) (xArr m c)
      (ix2 ⟨256 * (t.val / 4) + (y 0).val, by have h : t.val < 72 := t.isLt; have h0 : (y 0).val < 256 := (y 0).isLt; omega⟩
        ⟨2048 * (t.val % 4) + (y 1).val, by have h1 : (y 1).val < 2048 := (y 1).isLt; omega⟩) := by
  rw [codes_at, XCodeRef.codes_ref (xArr m c) (ix2 _ _)]
  have h1 : (y 1).val < 2048 := (y 1).isLt
  refine (congrArg (fun s => codesAt s _) (blockRot_eq m c t (y 0) ⟨(y 1).val / 16, by omega⟩)).trans ?_
  refine congrArg₂ (fun b q => codesAt (XRef.rot (xArr m c) _ b) q) (Fin.ext ?_) (Fin.ext ?_)
  · show 128 * (t.val % 4) + (y 1).val / 16 = (2048 * (t.val % 4) + (y 1).val) / 16
    omega
  · show (y 1).val % 16 = (2048 * (t.val % 4) + (y 1).val) % 16
    omega

/-- The codes the kernel leaves. -/
theorem codes_eq : (dats m 0 c).arrAt 3 cfg0.N = Cert.QuantisedXIdeal.Read.val_main_v96 (F := Ideal) (xArr m c) := by
  refine (dats m 0 c).arrAt_eq_of_covers 3 _ (by decide +kernel) fun t hf y => ?_
  blk_simp
  rw [after0_3]
  refine (codes_ref m c t y).trans ?_
  generalize Cert.QuantisedXIdeal.Read.val_main_v96 (F := Ideal) (xArr m c) = A
  blk_ext [codes_index]

end Cert.XCodeValue

end
-- ==== Proof.WPieces.lean ====
/- What one trip of the loop of the quantiser's body for `w` stores in the two scratch arrays: of each of its four rotated
   tiles and each group of 128 rows, the codes and the masks of `Tile`. -/
module
public import proofs.«01_k».proof.Proof.Gen.QuantWIdeal.Value
public import proofs.«01_k».proof.Proof.Tile
@[expose] public section
noncomputable section
namespace Cert.WPieces
open Idealize.ShloMosaic Cert.QuantWIdeal Cert.QuantWIdeal.Gen Cert.Tile
variable {F : FTy → Type} [FloatOps F]

/-- The rotated tile `t` of trip `k`. -/
def dot (arg2 : Memref sig .tc .vmem S256x256 .bf16) (arg3 : Memref sig .tc .vmem S256x4096 .bf16) (X_arg2 : BufTy.Contents (Elt F) arg2.view.ty) (X_arg3 : BufTy.Contents (Elt F) arg3.view.ty) (k : Fin k0_t1_loop.trips) (t : Fin 4) : FVec F S256x256 .f32 :=
  k0_pay2 (View.readAt (s := S256x4096) (Elt F) arg3.view (Rect.unit (s := S256x4096) (k0_off1 k (BitVec.ofNat 32 (256 * t.val))) S256x256.size (k0_off1_inb k t)).toLoadRect X_arg3)
    (View.readAt (s := S256x256) (Elt F) arg2.view (Rect.unit (s := S256x256) ![0, 0] S256x256.size inb_S256x256_S256x256_0_0).toLoadRect X_arg2)

variable (arg2 : Memref sig .tc .vmem S256x256 .bf16) (arg3 : Memref sig .tc .vmem S256x4096 .bf16) (X_arg2 : BufTy.Contents (Elt F) arg2.view.ty) (X_arg3 : BufTy.Contents (Elt F) arg3.view.ty) (k : Fin k0_t1_loop.trips)

/-- The eight blocks of a scratch array a trip stores, of what it computes of tile `t` and group `g`. -/
def tripPieces (f : Fin 4 → Fin 2 → IVec T8 32) : List (View.Piece (Elt F) S2x128x128 .i32) :=
  [⟨Rect.unit (s := S2x128x128) (k0_off5 k 3#32) S1x8x128.size (k0_off5_inb k 3), shapeCast S1x8x128 (f 3 1) shapeCasts_S8x128_S1x8x128⟩,
   ⟨Rect.unit (s := S2x128x128) (k0_off3 k 3#32) S1x8x128.size (k0_off3_inb k 3), shapeCast S1x8x128 (f 3 0) shapeCasts_S8x128_S1x8x128⟩,
   ⟨Rect.unit (s := S2x128x128) (k0_off5 k 2#32) S1x8x128.size (k0_off5_inb k 2), shapeCast S1x8x128 (f 2 1) shapeCasts_S8x128_S1x8x128⟩,
   ⟨Rect.unit (s := S2x128x128) (k0_off3 k 2#32) S1x8x128.size (k0_off3_inb k 2), shapeCast S1x8x128 (f 2 0) shapeCasts_S8x128_S1x8x128⟩,
   ⟨Rect.unit (s := S2x128x128) (k0_off5 k 1#32) S1x8x128.size (k0_off5_inb k 1), shapeCast S1x8x128 (f 1 1) shapeCasts_S8x128_S1x8x128⟩,
   ⟨Rect.unit (s := S2x128x128) (k0_off3 k 1#32) S1x8x128.size (k0_off3_inb k 1), shapeCast S1x8x128 (f 1 0) shapeCasts_S8x128_S1x8x128⟩,
   ⟨Rect.unit (s := S2x128x128) (k0_off5 k 0#32) S1x8x128.size (k0_off5_inb k 0), shapeCast S1x8x128 (f 0 1) shapeCasts_S8x128_S1x8x128⟩,
   ⟨Rect.unit (s := S2x128x128) (k0_off3 k 0#32) S1x8x128.size (k0_off3_inb k 0), shapeCast S1x8x128 (f 0 0) shapeCasts_S8x128_S1x8x128⟩]

variable (𝒱 : Variants) (c : Dev nD) (bd : Option 𝒱.V) (i : grid0.Coords) (harg2 : arg2.IsWhole) (harg3 : arg3.IsWhole) (arg4 : Memref sig .tc .vmem S4096x256 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)

theorem codes_trip (v0) : (trip_k0_t1 (F := F) 𝒱 c bd i arg2 harg2 arg3 harg3 arg4 harg4 arg5 harg5 arg6 harg6 arg7 harg7 arg8 harg8 arg9 harg9 v0 X_arg2 X_arg3 k).2.2.2.1
    = tripPieces k fun t g => codeV (dot arg2 arg3 X_arg2 X_arg3 k t) g := by
  unfold trip_k0_t1
  sl_kernel_rfl

theorem masks_trip (v0) : (trip_k0_t1 (F := F) 𝒱 c bd i arg2 harg2 arg3 harg3 arg4 harg4 arg5 harg5 arg6 harg6 arg7 harg7 arg8 harg8 arg9 harg9 v0 X_arg2 X_arg3 k).2.2.1
    = tripPieces k fun t g => maskV (dot arg2 arg3 X_arg2 X_arg3 k t) g := by
  unfold trip_k0_t1
  sl_kernel_rfl
end Cert.WPieces
end
-- ==== Proof.WScratch.lean ====
/- The two scratch arrays of the quantiser's body, after its four trips: the word at (g, B, r) is that of block B of the chunk
   and row 128 g + r. -/
module

public import proofs.«01_k».proof.Proof.WPieces
public import Idealize.ShloMosaic.Lib.Pipeline.Value
public import Idealize.ShloMosaic.Lib.Pipeline.ValueKit.Geometry

@[expose] public section

noncomputable section

namespace Cert.WScratch

open Idealize.ShloMosaic Cert.QuantWIdeal Cert.QuantWIdeal.Gen Cert.Tile Cert.WPieces

variable {F : FTy → Type} [FloatOps F]

theorem trips_eq : k0_t1_loop.trips = 4 := by decide

/-- The scratch array of what trip `k` computes of tile `t` and group `g`. -/
def scr (f : Fin k0_t1_loop.trips → Fin 4 → Fin 2 → IVec T8 32) (y : S2x128x128.Idx) : BitVec 32 :=
  f ⟨(y 1).val / 32, by have h : (y 1).val < 128 := (y 1).isLt; rw [trips_eq]; omega⟩ ⟨(y 1).val / 8 % 4, Nat.mod_lt _ (by decide)⟩ (y 0)
    (ix2 ⟨(y 1).val % 8, Nat.mod_lt _ (by decide)⟩ (y 2))

theorem piece_scr (f : Fin k0_t1_loop.trips → Fin 4 → Fin 2 → IVec T8 32) (k : Fin k0_t1_loop.trips) (t : Fin 4) (g : Fin 2)
    (off : Fin 3 → ℕ) (inb : ∀ a, off a + S1x8x128.size a ≤ S2x128x128.size a) (h : off = ![g.val, 32 * k.val + 8 * t.val, 0]) (x : S1x8x128.Idx) :
    shapeCast S1x8x128 (f k t g) shapeCasts_S8x128_S1x8x128 x = scr f ((Rect.unit (s := S2x128x128) off S1x8x128.size inb).emb x) := by
  subst h
  have h0 : (x 0).val < 1 := (x 0).isLt
  have h1 : (x 1).val < 8 := (x 1).isLt
  have hk : k.val < 4 := trips_eq ▸ k.isLt
  have ht := t.isLt
  rw [shapeCast_addUnit_apply ![8, 128] (f k t g) shapeCasts_S8x128_S1x8x128 x]
  have e := ValueKit.rect_emb_unit_val (s := S2x128x128) ![g.val, 32 * k.val + 8 * t.val, 0] S1x8x128.size inb x
  generalize (Rect.unit (s := S2x128x128) ![g.val, 32 * k.val + 8 * t.val, 0] S1x8x128.size inb).emb x = y at e ⊢
  have e0 : (y 0).val = g.val + (x 0).val := e 0
  have e1 : (y 1).val = 32 * k.val + 8 * t.val + (x 1).val := e 1
  have e2 : (y 2).val = 0 + (x 2).val := e 2
  unfold scr
  have hk' : (⟨(y 1).val / 32, by have h : (y 1).val < 128 := (y 1).isLt; rw [trips_eq]; omega⟩ : Fin k0_t1_loop.trips) = k :=
    Fin.ext (by show (y 1).val / 32 = _; omega)
  have ht' : (⟨(y 1).val / 8 % 4, Nat.mod_lt _ (by decide)⟩ : Fin 4) = t := Fin.ext (by show (y 1).val / 8 % 4 = _; omega)
  have hg' : (y 0 : Fin 2) = g := Fin.ext (by show (y 0).val = _; omega)
  rw [hk', ht', hg']
  exact congrArg (f k t g) (idx2_ext (by show (x 1).val = (y 1).val % 8; omega) (by show (x 2).val = (y 2).val; omega))

theorem tripPieces_scr (f : Fin k0_t1_loop.trips → Fin 4 → Fin 2 → IVec T8 32) (k : Fin k0_t1_loop.trips) :
    ∀ p ∈ tripPieces (F := F) k (f k), ∀ x : p.1.shape.Idx, p.2 x = scr f (p.1.emb x) := by
  intro p hp
  unfold tripPieces at hp
  simp only [List.mem_cons, List.not_mem_nil, or_false] at hp
  rcases hp with rfl | rfl | rfl | rfl | rfl | rfl | rfl | rfl
  · exact piece_scr f k 3 1 _ (k0_off5_inb k 3) (k0_off5_eq k 3)
  · exact piece_scr f k 3 0 _ (k0_off3_inb k 3) (k0_off3_eq k 3)
  · exact piece_scr f k 2 1 _ (k0_off5_inb k 2) (k0_off5_eq k 2)
  · exact piece_scr f k 2 0 _ (k0_off3_inb k 2) (k0_off3_eq k 2)
  · exact piece_scr f k 1 1 _ (k0_off5_inb k 1) (k0_off5_eq k 1)
  · exact piece_scr f k 1 0 _ (k0_off3_inb k 1) (k0_off3_eq k 1)
  · exact piece_scr f k 0 1 _ (k0_off5_inb k 0) (k0_off5_eq k 0)
  · exact piece_scr f k 0 0 _ (k0_off3_inb k 0) (k0_off3_eq k 0)

def trip (n : ℕ) (h : n < 4 := by decide) : Fin k0_t1_loop.trips := ⟨n, by rw [trips_eq]; exact h⟩

/-- All the pieces, the last trip's first. -/
def allPieces (f : Fin k0_t1_loop.trips → Fin 4 → Fin 2 → IVec T8 32) : List (View.Piece (Elt F) S2x128x128 .i32) :=
  tripPieces (trip 3) (f (trip 3)) ++ (tripPieces (trip 2) (f (trip 2)) ++ (tripPieces (trip 1) (f (trip 1)) ++ (tripPieces (trip 0) (f (trip 0)) ++ [])))

theorem allPieces_scr (f : Fin k0_t1_loop.trips → Fin 4 → Fin 2 → IVec T8 32) :
    ∀ p ∈ allPieces (F := F) f, ∀ x : p.1.shape.Idx, p.2 x = scr f (p.1.emb x) := by
  intro p hp
  unfold allPieces at hp
  simp only [List.mem_append, List.not_mem_nil, or_false] at hp
  rcases hp with h | h | h | h
  · exact tripPieces_scr f _ p h
  · exact tripPieces_scr f _ p h
  · exact tripPieces_scr f _ p h
  · exact tripPieces_scr f _ p h

theorem allPieces_cover (f : Fin k0_t1_loop.trips → Fin 4 → Fin 2 → IVec T8 32) :
    ∀ y, ∃ p ∈ allPieces (F := F) f, y ∈ p.1.set := by
  refine View.cover_of_tiledL _ ![1, 8, 128] ?_
  sl_kernel_rfl

/-- A group of the scratch array, loaded. -/
theorem readCov_allPieces (v : View sig .tc .vmem S2x128x128 .i32) (f : Fin k0_t1_loop.trips → Fin 4 → Fin 2 → IVec T8 32) (r : Rect S2x128x128) (x : r.shape.Idx) :
    v.readCov (Val := Elt F) (allPieces (F := F) f) r x = scr f (r.idx x) := by
  rw [View.readCov_eq_canon_ld v _ r (allPieces_cover (F := F) f)]
  exact View.canon_apply_of_pieces (scr f) _ (allPieces_scr (F := F) f) _ (allPieces_cover (F := F) f _)

variable (arg2 : Memref sig .tc .vmem S256x256 .bf16) (arg3 : Memref sig .tc .vmem S256x4096 .bf16) (X_arg2 : BufTy.Contents (Elt F) arg2.view.ty) (X_arg3 : BufTy.Contents (Elt F) arg3.view.ty)
variable (𝒱 : Variants) (c : Dev nD) (bd : Option 𝒱.V) (i : grid0.Coords) (harg2 : arg2.IsWhole) (harg3 : arg3.IsWhole) (arg4 : Memref sig .tc .vmem S4096x256 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)

theorem codes_pieces (v0) : (pb_k0_t1 (F := F) 𝒱 c bd i arg2 harg2 arg3 harg3 arg4 harg4 arg5 harg5 arg6 harg6 arg7 harg7 arg8 harg8 arg9 harg9 v0 X_arg2 X_arg3 4).2.2.2
    = allPieces (F := F) fun k t g => codeV (dot (F := F) arg2 arg3 X_arg2 X_arg3 k t) g := by
  have h := fun k => congrArg (fun p => p.2.2.2) (pb_k0_t1_succ (F := F) 𝒱 c bd i arg2 harg2 arg3 harg3 arg4 harg4 arg5 harg5 arg6 harg6 arg7 harg7 arg8 harg8 arg9 harg9 v0 X_arg2 X_arg3 k)
  dsimp only at h
  simp only [codes_trip] at h
  have h3 := h (trip 3); have h2 := h (trip 2); have h1 := h (trip 1); have h0 := h (trip 0)
  refine h3.trans ?_
  unfold allPieces
  refine congrArg _ (h2.trans (congrArg _ (h1.trans (congrArg _ (h0.trans (congrArg _ ?_))))))
  rfl

theorem masks_pieces (v0) : (pb_k0_t1 (F := F) 𝒱 c bd i arg2 harg2 arg3 harg3 arg4 harg4 arg5 harg5 arg6 harg6 arg7 harg7 arg8 harg8 arg9 harg9 v0 X_arg2 X_arg3 4).2.2.1
    = allPieces (F := F) fun k t g => maskV (dot (F := F) arg2 arg3 X_arg2 X_arg3 k t) g := by
  have h := fun k => congrArg (fun p => p.2.2.1) (pb_k0_t1_succ (F := F) 𝒱 c bd i arg2 harg2 arg3 harg3 arg4 harg4 arg5 harg5 arg6 harg6 arg7 harg7 arg8 harg8 arg9 harg9 v0 X_arg2 X_arg3 k)
  dsimp only at h
  simp only [masks_trip] at h
  have h3 := h (trip 3); have h2 := h (trip 2); have h1 := h (trip 1); have h0 := h (trip 0)
  refine h3.trans ?_
  unfold allPieces
  refine congrArg _ (h2.trans (congrArg _ (h1.trans (congrArg _ (h0.trans (congrArg _ ?_))))))
  rfl

end Cert.WScratch

end
-- ==== Proof.WBlocks.lean ====
/- What a point of the quantiser's grid writes of the masks and of the scales, at an index, from the words its trips
   leave in the two scratch arrays. -/
module

public import proofs.«01_k».proof.Proof.WScratch
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WBlocks

open Idealize.ShloMosaic Cert.QuantWIdeal Cert.QuantWIdeal.Gen Cert.Tile Cert.WPieces Cert.WScratch

variable {F : FTy → Type} [FloatOps F]

/-- A group of scratch words, turned so that rows are the operand's. -/
def turned (v : Vec F S1x128x128 .i32) : IVec S128x128 32 :=
  transpose S128x128 [1, 0] (shapeCast S128x128 v shapeCasts_S1x128x128_S128x128) transposes_S128x128_p1_0_S128x128

theorem turned_apply (v : Vec F S1x128x128 .i32) (j : S128x128.Idx) :
    turned v j = v (ix3 0 (j 1) (j 0)) := by
  unfold turned
  pointwise

theorem turned_scr (v : View sig .tc .vmem S2x128x128 .i32) (f : Fin k0_t1_loop.trips → Fin 4 → Fin 2 → IVec T8 32) (g : Fin 2)
    (inb : ∀ a, ![g.val, 0, 0] a + S1x128x128.size a ≤ S2x128x128.size a) (j : S128x128.Idx) :
    turned (F := F) (v.readCov (Val := Elt F) (allPieces (F := F) f) (Rect.unit (s := S2x128x128) ![g.val, 0, 0] S1x128x128.size inb).toLoadRect) j
      = scr f (ix3 g (j 1) (j 0)) := by
  rw [turned_apply, readCov_allPieces]
  refine congrArg (scr f) (funext fun a => Fin.ext ((Rect.idx_unit_val _ _ inb _ a).trans ?_))
  match a with
  | ⟨0, _⟩ => rfl
  | ⟨1, _⟩ => exact Nat.zero_add _
  | ⟨2, _⟩ => exact Nat.zero_add _

/-- The lane each mask byte comes from. -/
def laneV (u : BitVec 32) : IVec S128x128 32 :=
  addi (broadcast S128x128 u) (shrsi (iota .tc S128x128 32 [1] iota_S128x128_d1_w32) (broadcast S128x128 2#32))

/-- A group of mask bytes. -/
def bytesV (u : BitVec 32) (w : IVec S128x128 32) : IVec S128x128 8 :=
  trunci 8 (shrsi (dynamicGather 1 w (shapeCast S128x128 (shapeCast S128x128x1
      (select (cmpi .slt (laneV u) (broadcast S128x128 0#32)) (addi (laneV u) (broadcast S128x128 128#32)) (laneV u))
      shapeCasts_S128x128_S128x128x1) shapeCasts_S128x128x1_S128x128))
    (muli (andi (iota .tc S128x128 32 [1] iota_S128x128_d1_w32) (broadcast S128x128 3#32)) (broadcast S128x128 8#32))) natLt_8_32

theorem shrsi_of {x y : BitVec 32} {k : ℕ} (hy : y.toNat = k) (hk : k < 32) : IntOp.shrsi ArithUnit.vector x y = x.sshiftRight k := by
  subst hy
  unfold IntOp.shrsi
  rw [if_pos hk]
  rfl

theorem bytesV_apply (u : Fin 4) (w : IVec S128x128 32) (j : S128x128.Idx) :
    bytesV (BitVec.ofNat 32 (32 * u.val)) w j
      = ((w (ix2 (j 0) ⟨32 * u.val + (j 1).val / 4, by have h : (j 1).val < 128 := (j 1).isLt; have := u.isLt; omega⟩)).sshiftRight (8 * ((j 1).val % 4))).setWidth 8 := by
  have hl : ∀ (u : Fin 4) (l : Fin 128), (Scalar.select (IntOp.cmpi CmpIPredicate.slt (IntOp.addi (BitVec.ofNat 32 (32 * u.val))
      (IntOp.shrsi ArithUnit.vector (BitVec.ofNat 32 l.val) 2#32)) 0#32)
      (IntOp.addi (IntOp.addi (BitVec.ofNat 32 (32 * u.val)) (IntOp.shrsi ArithUnit.vector (BitVec.ofNat 32 l.val) 2#32)) 128#32)
      (IntOp.addi (BitVec.ofNat 32 (32 * u.val)) (IntOp.shrsi ArithUnit.vector (BitVec.ofNat 32 l.val) 2#32))).toNat % 128
      = 32 * u.val + l.val / 4 := by decide +kernel
  have hs : ∀ (l : Fin 128), (IntOp.muli (IntOp.andi (BitVec.ofNat 32 l.val) 3#32) 8#32).toNat = 8 * (l.val % 4) := by decide +kernel
  unfold bytesV laneV
  pointwise
  rw [shrsi_of (hs (j 1)) (by omega)]
  refine congrArg (fun x => BitVec.setWidth 8 (BitVec.sshiftRight x _)) (congrArg w (idx2_ext rfl ?_))
  exact hl u (j 1)

variable (c : Dev nD) (i : grid0.Coords) (arg2 : Memref sig .tc .vmem S256x256 .bf16) (harg2 : arg2.IsWhole) (arg3 : Memref sig .tc .vmem S256x4096 .bf16) (harg3 : arg3.IsWhole) (arg4 : Memref sig .tc .vmem S4096x256 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)
  (x0 : Vec F S256x256 .bf16) (x1 : Vec F S256x4096 .bf16)

/-- The scale at (row, block): the code there, as a byte. -/
def scaleAt (s : S2x128x128.Idx → BitVec 32) (y : S256x128.Idx) : BitVec 8 :=
  (s (ix3 ⟨(y 0).val / 128, by have h : (y 0).val < 256 := (y 0).isLt; omega⟩ (y 1) ⟨(y 0).val % 128, Nat.mod_lt _ (by decide)⟩)).setWidth 8

/-- Byte (row, q) of the words: byte q % 4 of the word at block q / 4. -/
def byteAt (s : S2x128x128.Idx → BitVec 32) (y : S256x512.Idx) : BitVec 8 :=
  ((s (ix3 ⟨(y 0).val / 128, by have h : (y 0).val < 256 := (y 0).isLt; omega⟩ ⟨(y 1).val / 4, by have h : (y 1).val < 512 := (y 1).isLt; omega⟩
    ⟨(y 0).val % 128, Nat.mod_lt _ (by decide)⟩)).sshiftRight (8 * ((y 1).val % 4))).setWidth 8

/-- The codes a point's trips find. -/
def codes : S2x128x128.Idx → BitVec 32 := scr fun k t g => codeV (dot (F := F) arg2 arg3 (harg2.unread x0) (harg3.unread x1) k t) g

/-- The masks a point's trips find. -/
def masks : S2x128x128.Idx → BitVec 32 := scr fun k t g => maskV (dot (F := F) arg2 arg3 (harg2.unread x0) (harg3.unread x1) k t) g

theorem trips4 : Scf.trips (0#32) (Scalar.addi 0#32 4#32) 1#32 = 4 := by decide

/-- The scales stored of a group. -/
theorem scale_piece (f : Fin k0_t1_loop.trips → Fin 4 → Fin 2 → IVec T8 32) (v : View sig .tc .vmem S2x128x128 .i32) (g : Fin 2)
    (inb : ∀ a, ![g.val, 0, 0] a + S1x128x128.size a ≤ S2x128x128.size a)
    (inb' : ∀ a, ![128 * g.val, 0] a + S128x128.size a ≤ S256x128.size a) (x : S128x128.Idx) :
    trunci 8 (turned (F := F) (v.readCov (Val := Elt F) (allPieces (F := F) f) (Rect.unit (s := S2x128x128) ![g.val, 0, 0] S1x128x128.size inb).toLoadRect)) natLt_8_32 x
      = scaleAt (scr f) ((Rect.unit (s := S256x128) ![128 * g.val, 0] S128x128.size inb').emb x) := by
  refine (congrArg (BitVec.setWidth 8) (turned_scr v f g inb x)).trans ?_
  have e := ValueKit.rect_emb_unit_val (s := S256x128) ![128 * g.val, 0] S128x128.size inb' x
  generalize (Rect.unit (s := S256x128) ![128 * g.val, 0] S128x128.size inb').emb x = y at e ⊢
  have e0 : (y 0).val = 128 * g.val + (x 0).val := e 0
  have e1 : (y 1).val = 0 + (x 1).val := e 1
  have h0 : (x 0).val < 128 := (x 0).isLt
  unfold scaleAt
  refine congrArg (fun y => (scr _ y).setWidth 8) (idx3_ext ?_ ?_ ?_)
  · show g.val = (y 0).val / 128; omega
  · show (x 1).val = (y 1).val; omega
  · show (x 0).val = (y 0).val % 128; omega

theorem out_scales (y : S256x128.Idx) :
    out0_A_5 (F := F) c i arg2 harg2 arg3 harg3 arg4 harg4 arg5 harg5 arg6 harg6 arg7 harg7 arg8 harg8 arg9 harg9 x0 x1 y
      = scaleAt (codes arg2 harg2 arg3 harg3 x0 x1) y := by
  unfold out0_A_5
  rw [View.read_writes_apply_eq_canon _ _ _ _ (cover0_A_5 c i arg2 harg2 arg3 harg3 arg4 harg4 arg5 harg5 arg6 harg6 arg7 harg7 arg8 harg8 arg9 harg9 x0 x1 y)]
  refine View.canon_apply_of_pieces (Val := Elt F) (scaleAt (codes arg2 harg2 arg3 harg3 x0 x1)) _ ?_ y
    (cover0_A_5 c i arg2 harg2 arg3 harg3 arg4 harg4 arg5 harg5 arg6 harg6 arg7 harg7 arg8 harg8 arg9 harg9 x0 x1 y)
  unfold kernelRun0_A
  dsimp only
  rw [trips4, codes_pieces]
  intro p hp
  simp only [List.mem_cons, List.not_mem_nil, or_false] at hp
  rcases hp with rfl | rfl
  · exact scale_piece (F := F) _ arg9.view 1 inb_S2x128x128_S1x128x128_1_0_0 inb_S256x128_S128x128_128_0
  · exact scale_piece (F := F) _ arg9.view 0 inb_S2x128x128_S1x128x128_0_0_0 inb_S256x128_S128x128_0_0

/-- A group of mask bytes stored: the word's byte. -/
theorem mask_piece (f : Fin k0_t1_loop.trips → Fin 4 → Fin 2 → IVec T8 32) (v : View sig .tc .vmem S2x128x128 .i32) (g : Fin 2) (u : Fin 4)
    (inb : ∀ a, ![g.val, 0, 0] a + S1x128x128.size a ≤ S2x128x128.size a)
    (inb' : ∀ a, ![128 * g.val, 128 * u.val] a + S128x128.size a ≤ S256x512.size a) (x : S128x128.Idx) :
    bytesV (BitVec.ofNat 32 (32 * u.val)) (turned (F := F) (v.readCov (Val := Elt F) (allPieces (F := F) f) (Rect.unit (s := S2x128x128) ![g.val, 0, 0] S1x128x128.size inb).toLoadRect)) x
      = byteAt (scr f) ((Rect.unit (s := S256x512) ![128 * g.val, 128 * u.val] S128x128.size inb').emb x) := by
  rw [bytesV_apply, turned_scr]
  have e := ValueKit.rect_emb_unit_val (s := S256x512) ![128 * g.val, 128 * u.val] S128x128.size inb' x
  generalize (Rect.unit (s := S256x512) ![128 * g.val, 128 * u.val] S128x128.size inb').emb x = y at e ⊢
  have e0 : (y 0).val = 128 * g.val + (x 0).val := e 0
  have e1 : (y 1).val = 128 * u.val + (x 1).val := e 1
  have h0 : (x 0).val < 128 := (x 0).isLt
  have h1 : (x 1).val < 128 := (x 1).isLt
  unfold byteAt
  rw [show (y 1).val % 4 = (x 1).val % 4 by omega]
  refine congrArg (fun y => ((scr _ y).sshiftRight _).setWidth 8) (idx3_ext ?_ ?_ ?_)
  · show g.val = (y 0).val / 128; omega
  · show 32 * u.val + (x 1).val / 4 = (y 1).val / 4; omega
  · show (x 0).val = (y 0).val % 128; omega

theorem out_masks (y : S256x512.Idx) :
    out0_A_4 (F := F) c i arg2 harg2 arg3 harg3 arg4 harg4 arg5 harg5 arg6 harg6 arg7 harg7 arg8 harg8 arg9 harg9 x0 x1 y
      = byteAt (masks arg2 harg2 arg3 harg3 x0 x1) y := by
  unfold out0_A_4
  rw [View.read_writes_apply_eq_canon _ _ _ _ (cover0_A_4 c i arg2 harg2 arg3 harg3 arg4 harg4 arg5 harg5 arg6 harg6 arg7 harg7 arg8 harg8 arg9 harg9 x0 x1 y)]
  refine View.canon_apply_of_pieces (Val := Elt F) (byteAt (masks arg2 harg2 arg3 harg3 x0 x1)) _ ?_ y
    (cover0_A_4 c i arg2 harg2 arg3 harg3 arg4 harg4 arg5 harg5 arg6 harg6 arg7 harg7 arg8 harg8 arg9 harg9 x0 x1 y)
  unfold kernelRun0_A
  dsimp only [kernelRun0_A.sl.v0, kernelRun0_A.sl.r, kernelRun0_A.sl.r_1, kernelRun0_A.sl.r_2]
  rw [trips4, masks_pieces]
  intro p hp
  simp only [List.mem_cons, List.not_mem_nil, or_false] at hp
  rcases hp with rfl | rfl | rfl | rfl | rfl | rfl | rfl | rfl
  · exact mask_piece (F := F) _ arg8.view 1 3 inb_S2x128x128_S1x128x128_1_0_0 inb_S256x512_S128x128_128_384
  · exact mask_piece (F := F) _ arg8.view 1 2 inb_S2x128x128_S1x128x128_1_0_0 inb_S256x512_S128x128_128_256
  · exact mask_piece (F := F) _ arg8.view 1 1 inb_S2x128x128_S1x128x128_1_0_0 inb_S256x512_S128x128_128_128
  · exact mask_piece (F := F) _ arg8.view 1 0 inb_S2x128x128_S1x128x128_1_0_0 inb_S256x512_S128x128_128_0
  · exact mask_piece (F := F) _ arg8.view 0 3 inb_S2x128x128_S1x128x128_0_0_0 inb_S256x512_S128x128_0_384
  · exact mask_piece (F := F) _ arg8.view 0 2 inb_S2x128x128_S1x128x128_0_0_0 inb_S256x512_S128x128_0_256
  · exact mask_piece (F := F) _ arg8.view 0 1 inb_S2x128x128_S1x128x128_0_0_0 inb_S256x512_S128x128_0_128
  · exact mask_piece (F := F) _ arg8.view 0 0 inb_S2x128x128_S1x128x128_0_0_0 inb_S256x512_S128x128_0_0

end Cert.WBlocks

end
-- ==== Proof.WRot.lean ====
module
public import proofs.«01_k».proof.Proof.Gen.QuantWIdeal.Value
public import proofs.«01_k».proof.Proof.Rotation
public import Idealize.ShloMosaic.Lib.StableHlo.ReadAt
/-!
The rotation matrix the host hands the quantising kernel for `w`, at an element.
-/

@[expose] public section

set_option maxRecDepth 100000
set_option maxHeartbeats 4000000

noncomputable section

namespace Cert.WRot

open Cert.QuantWIdeal Cert.QuantWIdeal.Gen Idealize.ShloMosaic Idealize.ShloMosaic.TcCoe Idealize.SL.Sem

variable {F : FTy → Type} [FloatOps F]
variable (m : (ℓ : Loc nD τ sig) → Buf (Elt F) ℓ) (c : Dev nD)

/-- The operand main_v28 of the kernel is the word program `Rotation.entry` at every element. -/
theorem rotation_at (j : S256x256.Idx) :
    (V m c main_v28 : (⟨S256x256, .bf16⟩ : BufTy).Contents (Elt F)) j = Rotation.entry (F := F) (j 0).val (j 1).val := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_reads_at
  rfl

end Cert.WRot
end
-- ==== Proof.WDot.lean ====
/- The rotated tile of the quantiser's body for `w`, at an element and at the extended reals: a quarter of the rotated value. -/
module

public import proofs.«01_k».proof.Proof.WBlocks
public import proofs.«01_k».proof.Proof.WRot
public import proofs.«01_k».proof.Proof.TileRead

@[expose] public section

set_option maxRecDepth 16384

noncomputable section

namespace Cert.WDot

open Idealize.ShloMosaic Cert.QuantWIdeal Cert.QuantWIdeal.Gen Cert.Tile Cert.WPieces Cert.WScratch Cert.WBlocks Cert.Spec

variable (arg2 : Memref sig .tc .vmem S256x256 .bf16) (harg2 : arg2.IsWhole) (arg3 : Memref sig .tc .vmem S256x4096 .bf16) (harg3 : arg3.IsWhole)
  (x0 : Vec Ideal S256x256 .bf16) (x1 : Vec Ideal S256x4096 .bf16)

theorem place_of (n v : ℕ) (hn : n < 32) :
    (n % 32 % 2 * 128 + n % 32 / 2 * 8 + v % 8) % 128 / 8 * 2 + (n % 32 % 2 * 128 + n % 32 / 2 * 8 + v % 8) / 128 = n := by
  have hv : v % 8 < 8 := Nat.mod_lt _ (by decide)
  generalize v % 8 = w at hv
  have e : n = 2 * (n / 2) + n % 2 := by omega
  have hp : n % 2 < 2 := Nat.mod_lt _ (by decide)
  have hq : n / 2 < 16 := by omega
  rw [Nat.mod_eq_of_lt hn]
  generalize n % 2 = p at e hp
  generalize n / 2 = q at e hq
  have e1 : (p * 128 + q * 8 + w) % 128 = q * 8 + w := by omega
  have e2 : (p * 128 + q * 8 + w) / 128 = p := by omega
  rw [e1, e2]
  omega

theorem read_rot : View.readAt (s := S256x256) (Elt Ideal) arg2.view
    (Rect.unit (s := S256x256) ![0, 0] S256x256.size inb_S256x256_S256x256_0_0).toLoadRect (harg2.unread x0) = x0 := by
  rw [View.readAt_eq_ld, harg2.read_unread]
  exact Idealize.ShloMosaic.View.ld_unit_zero (S := S256x256) (funext fun a => match a with | ⟨0, _⟩ => rfl | ⟨1, _⟩ => rfl) inb_S256x256_S256x256_0_0 x0

theorem read_cols (k : Fin k0_t1_loop.trips) (t : Fin 4) (y : S256x256.Idx) : View.readAt (s := S256x4096) (Elt Ideal) arg3.view
    (Rect.unit (s := S256x4096) (k0_off1 k (BitVec.ofNat 32 (256 * t.val))) S256x256.size (k0_off1_inb k t)).toLoadRect (harg3.unread x1) y
      = x1 (ix2 (y 0) ⟨1024 * k.val + 256 * t.val + (y 1).val, by
          have hk : k.val < 4 := trips_eq ▸ k.isLt
          have hy : (y 1).val < 256 := (y 1).isLt
          omega⟩) := by
  rw [View.readAt_eq_ld, harg3.read_unread]
  refine congrArg x1 (idx2_ext ?_ ?_)
  · refine (Rect.idx_unit_val (s := S256x4096) (k0_off1 k (BitVec.ofNat 32 (256 * t.val))) S256x256.size (k0_off1_inb k t) y 0).trans ?_
    rw [congrFun (k0_off1_eq k t) 0]
    exact Nat.zero_add _
  · refine (Rect.idx_unit_val (s := S256x4096) (k0_off1 k (BitVec.ofNat 32 (256 * t.val))) S256x256.size (k0_off1_inb k t) y 1).trans ?_
    rw [congrFun (k0_off1_eq k t) 1]
    rfl

/-- The tile is the rows of the rotation against the columns of its part of the block. -/
theorem dot_apply (k : Fin k0_t1_loop.trips) (t : Fin 4) (j : S256x256.Idx) :
    dot (F := Ideal) arg2 arg3 (harg2.unread x0) (harg3.unread x1) k t j
      = ∑ b : Fin 256, x0 (ix2 (j 0) b) * x1 (ix2 (j 1) ⟨1024 * k.val + 256 * t.val + b.val, by
          have hk : k.val < 4 := trips_eq ▸ k.isLt
          omega⟩) := by
  unfold dot k0_pay2
  pointwise
  refine Finset.sum_congr rfl fun b _ => ?_
  rw [read_rot, read_cols]
  rfl

/-- The rotated values of block `b` of row `r` of a block of the operand. -/
def blockRot (r : Fin 256) (b : Fin 128) : Fin 32 → EReal :=
  Rotation.rotated fun k => x1 (ix2 r ⟨32 * b.val + k.val, by omega⟩)

variable (hx0 : ∀ a b : Fin 256, x0 (ix2 a b) = Rotation.entry (F := Ideal) a.val b.val)
include hx0

/-- A quarter of the rotated value, at every place of the block a scratch word stands for. -/
theorem pos_eq (y : S2x128x128.Idx) (n : Fin 32) :
    pos (dot (F := Ideal) arg2 arg3 (harg2.unread x0) (harg3.unread x1)
        ⟨(y 1).val / 32, by have h : (y 1).val < 128 := (y 1).isLt; rw [trips_eq]; omega⟩ ⟨(y 1).val / 8 % 4, Nat.mod_lt _ (by decide)⟩) (y 0) n.val
        (ix2 ⟨(y 1).val % 8, Nat.mod_lt _ (by decide)⟩ (y 2))
      = pw (-2) * blockRot x1 ⟨128 * (y 0).val + (y 2).val, by
          have h0 : (y 0).val < 2 := (y 0).isLt
          have h2 : (y 2).val < 128 := (y 2).isLt
          omega⟩ (y 1) n := by
  have h0 : (y 0).val < 2 := (y 0).isLt
  have h1 : (y 1).val < 128 := (y 1).isLt
  have h2 : (y 2).val < 128 := (y 2).isLt
  have hn := n.isLt
  unfold pos group
  pointwise
  rw [dot_apply]
  refine (Finset.sum_congr rfl fun b _ => congrArg (· * _) (hx0 _ b)).trans ?_
  refine (Rotation.row_sum _ fun b => x1 (ix2 _ _)).trans ?_
  unfold blockRot Rotation.rotated
  refine congrArg (pw (-2) * ·) (Finset.sum_congr rfl fun k' _ => ?_)
  have hk := k'.isLt
  refine congr (congrArg HMul.hMul ?_) (congrArg x1 (idx2_ext ?_ ?_))
  · refine congrArg (Rotation.sign · k'.val) ?_
    show (n.val % 32 % 2 * 128 + n.val % 32 / 2 * 8 + (y 1).val % 8) % 128 / 8 * 2 + (n.val % 32 % 2 * 128 + n.val % 32 / 2 * 8 + (y 1).val % 8) / 128 = n.val
    exact place_of n.val (y 1).val hn
  · show (y 0).val * 128 + (y 2).val = 128 * (y 0).val + (y 2).val
    omega
  · show 1024 * ((y 1).val / 32) + 256 * ((y 1).val / 8 % 4) + (32 * ((n.val % 32 % 2 * 128 + n.val % 32 / 2 * 8 + (y 1).val % 8) % 8) + k'.val) = 32 * (y 1).val + k'.val
    have e8 : (n.val % 32 % 2 * 128 + n.val % 32 / 2 * 8 + (y 1).val % 8) % 8 = (y 1).val % 8 := by omega
    rw [e8]
    omega

/-- The row of the operand's block a scratch word belongs to. -/
def rowOf (y : S2x128x128.Idx) : Fin 256 := ⟨128 * (y 0).val + (y 2).val, by
  have h0 : (y 0).val < 2 := (y 0).isLt
  have h2 : (y 2).val < 128 := (y 2).isLt
  omega⟩

/-- A scratch word of codes is the code of its block. -/
theorem codes_apply (y : S2x128x128.Idx) :
    codes (F := Ideal) arg2 harg2 arg3 harg3 x0 x1 y = BitVec.ofNat 32 (code (blockRot x1 (rowOf y) (y 1))) := by
  unfold codes scr codeV
  exact TileRead.code_eq fun n => pos_eq arg2 harg2 arg3 harg3 x0 x1 hx0 y n

open scoped Classical in
/-- A scratch word of masks holds one bit per element of its block. -/
theorem masks_apply (y : S2x128x128.Idx) (i : Fin 32) :
    (masks (F := Ideal) arg2 harg2 arg3 harg3 x0 x1 y).getLsbD i.val = decide (inside (blockRot x1 (rowOf y) (y 1)) i) := by
  unfold masks scr maskV
  rw [TileRead.mask_eq (s := blockRot x1 (rowOf y) (y 1)) (fun n => pos_eq arg2 harg2 arg3 harg3 x0 x1 hx0 y n) 32 (le_refl _) i]
  exact decide_eq_decide.2 (and_iff_right i.isLt)

/-- A stored scale byte. -/
theorem scale_apply (y : S256x128.Idx) :
    scaleAt (codes (F := Ideal) arg2 harg2 arg3 harg3 x0 x1) y
      = (BitVec.ofNat 32 (code (blockRot x1 (y 0) (y 1)))).setWidth 8 := by
  unfold scaleAt
  rw [codes_apply arg2 harg2 arg3 harg3 x0 x1 hx0]
  refine congrArg (fun r : Fin 256 => (BitVec.ofNat 32 (code (blockRot x1 r (y 1)))).setWidth 8) (Fin.ext ?_)
  show 128 * ((y 0).val / 128) + (y 0).val % 128 = (y 0).val
  omega

/-- A stored mask byte. -/
theorem byte_apply (y : S256x512.Idx) :
    byteAt (masks (F := Ideal) arg2 harg2 arg3 harg3 x0 x1) y
      = byte fun j => inside (blockRot x1 (y 0) ⟨(y 1).val / 4, by have h : (y 1).val < 512 := (y 1).isLt; omega⟩) ⟨8 * ((y 1).val % 4) + j.val, by omega⟩ := by
  unfold byteAt
  refine (byte_of_bits _ _ (Nat.mod_lt _ (by decide)) _ fun i => masks_apply arg2 harg2 arg3 harg3 x0 x1 hx0 _ i).trans ?_
  refine congrArg (fun r : Fin 256 => byte fun j : Fin 8 => inside (blockRot x1 r ⟨(y 1).val / 4, by have h : (y 1).val < 512 := (y 1).isLt; omega⟩) ⟨8 * ((y 1).val % 4) + j.val, by omega⟩) (Fin.ext ?_)
  show 128 * ((y 0).val / 128) + (y 0).val % 128 = (y 0).val
  omega

end Cert.WDot

end
-- ==== Proof.WRef.lean ====
/- The reference's masks and scales of `w`, at an element: the specification's, of the rotated group the element stands for. -/
module

public import proofs.«01_k».proof.Proof.Gen.QuantisedWIdeal.Read
public import proofs.«01_k».proof.Proof.Rotation
public import Idealize.ShloMosaic.Lib.Pointwise

@[expose] public section

set_option maxRecDepth 16384

noncomputable section

namespace Cert.WRef

open Cert.QuantisedWIdeal Cert.QuantisedWIdeal.Gen Cert.QuantisedWIdeal.Read Idealize.ShloMosaic Cert.Spec
open scoped Classical

variable (x0 : (⟨S5120x16384, .bf16⟩ : BufTy).Contents (Elt Ideal))

/-- The rotated values of block `b` of row `r`. -/
def rot (r : Fin 5120) (b : Fin 512) : Fin 32 → EReal :=
  Rotation.rotated fun k => x0 (ix2 r ⟨32 * b.val + k.val, by omega⟩)

theorem one_eq : Ideal.ofBits .f32 0x3F800000#32 = 1 := by
  have := bits_pw 127 (by decide) (by decide)
  simpa [pw] using this

theorem minus_one_eq : Ideal.ofBits .f32 0xBF800000#32 = -1 := by
  simp [Ideal.ofBits, Ideal.ieee]
  rw [← EReal.coe_mul]
  norm_num

/-- The reference's table of signs. -/
theorem signs (i : S32x32.Idx) : val_main_v13 (F := Ideal) i = Rotation.sign (i 0).val (i 1).val := by
  rw [val_main_v13_apply, val_main_v12_apply, val_main_v11_apply, val_main_v9_apply, val_main_v7_apply, val_main_v6_apply,
    val_main_v4_apply, val_main_v2_apply, val_main_v1_apply, val_main_v5_apply, val_main_v3_apply, val_main_v1_apply,
    val_main_v8_apply, val_main_v10_apply, val_main_call0_v0_apply, val_main_call0_v1_apply]
  show Scalar.select _ (Ideal.ofBits .f32 0x3F800000#32) (Ideal.ofBits .f32 0xBF800000#32) = _
  rw [one_eq, minus_one_eq]
  rfl

theorem rot_eq (i : S5120x512x32.Idx) : val_main_v14 (F := Ideal) x0 i = rot x0 (i 0) (i 1) (i 2) := by
  rw [val_main_v14_apply]
  unfold rot Rotation.rotated
  refine Finset.sum_congr rfl fun k _ => ?_
  rw [signs, val_main_v0_apply, mul_comm]
  refine congrArg₂ (· * ·) (Rotation.sign_comm _ _) (congrArg x0 (funext fun a => Fin.ext ?_))
  have h0 : (i 0).val < 5120 := (i 0).isLt
  have h1 : (i 1).val < 512 := (i 1).isLt
  have hk := k.isLt
  match a with
  | ⟨0, _⟩ => show (((i 0).val * 512 + (i 1).val) * 32 + k.val) / 16384 = (i 0).val; omega
  | ⟨1, _⟩ => show (((i 0).val * 512 + (i 1).val) * 32 + k.val) % 16384 = 32 * (i 1).val + k.val; omega

theorem rms_ref (i : S5120x512.Idx) : val_main_v19 (F := Ideal) x0 i = rms (rot x0 (i 0) (i 1)) := by
  rw [val_main_v19_apply, val_main_v18_apply, val_main_v16_apply, val_main_v17_apply]
  show Ideal.sqrt ((Ideal.ofBits .f32 0x00000000#32 + ∑ k : Fin 32, val_main_v15 (F := Ideal) x0 (idx_main_v16 i k)) * Ideal.ofBits .f32 0x3A800000#32) = _
  rw [Ideal.ofBits_zero_f32, zero_add]
  unfold rms
  refine congrArg (fun z => Ideal.sqrt (z * _)) (Finset.sum_congr rfl fun k _ => ?_)
  rw [val_main_v15_apply, rot_eq]
  rfl

theorem amp_ref (i : S5120x512.Idx) : val_main_v23 (F := Ideal) x0 i = amp (rot x0 (i 0) (i 1)) := by
  rw [val_main_v23_apply, val_main_v21_apply, val_main_v20_apply, val_main_v22_apply, rms_ref]
  rfl

/-- The table of powers. -/
theorem power_ref (i : S252.Idx) : val_main_v29 (F := Ideal) i = pw (((i 0).val : ℤ) - 125) := by
  have hw : ∀ m : Fin 252, (IntOp.addi 4294967171#32 (BitVec.ofNat 32 m.val)).toInt = (m.val : ℤ) - 125 := by decide +kernel
  rw [val_main_v29_apply, val_main_v28_apply, val_main_v27_apply, val_main_v26_apply, val_main_v25_apply, val_main_v24_apply]
  show Ideal.pow (Ideal.ofBits .f32 0x40000000#32) (((IntOp.addi 4294967171#32 (BitVec.ofNat 32 (i 0).val)).toInt : ℝ) : EReal) = _
  rw [hw (i 0), pow_two]

/-- Whether the power at a place of the table is not above a block's amplitude. -/
theorem bit_ref (i : S5120x512x252.Idx) : val_main_v35 (F := Ideal) x0 i
    = (BitVec.ofBool (decide (pw (((i 2).val : ℤ) - 125) ≤ amp (rot x0 (i 0) (i 1))))).setWidth 32 := by
  rw [val_main_v35_apply, val_main_v34_apply, val_main_v32_apply, val_main_v30_apply, val_main_v33_apply,
    val_main_v31_apply, power_ref, amp_ref]
  rfl

theorem count_ref (i : S5120x512.Idx) : val_main_v36 (F := Ideal) x0 i = BitVec.ofNat 32 (count (amp (rot x0 (i 0) (i 1)))) := by
  unfold val_main_v36
  have hR : S5120x512x252.Reduces [2] S5120x512 := by decide
  rw [Host.reduce_eq_fold_single IntOp.addi _ _ reducesTo_S5120x512x252_S5120x512_d2 hR h_S_ i]
  refine count_word _ _ fun m => ?_
  have e : (hR.lift i m) = ix3 (i 0) (i 1) m :=
    funext fun a => Fin.ext (by match a with | ⟨0, _⟩ => rfl | ⟨1, _⟩ => rfl | ⟨2, _⟩ => rfl)
  exact (congrArg (val_main_v35 (F := Ideal) x0) e).trans (bit_ref x0 (ix3 (i 0) (i 1) m))

/-- The exponent's word. -/
theorem code_ref (i : S5120x512.Idx) : val_main_v41 (F := Ideal) x0 i = BitVec.ofNat 32 (code (rot x0 (i 0) (i 1))) - 127#32 := by
  have hw : ∀ m : Fin 253, IntOp.subi (BitVec.ofNat 32 m.val) 126#32 = BitVec.ofNat 32 (1 + m.val) - 127#32 := by decide +kernel
  rw [val_main_v41_apply, val_main_v38_apply, val_main_v40_apply, rms_ref, count_ref, val_main_v39_apply, val_main_v37_apply,
    val_main_call1_v1_apply]
  show Scalar.select (BitVec.ofBool (decide (rms (rot x0 (i 0) (i 1)) = Ideal.ofBits .f32 0x00000000#32))) 0#32
    (IntOp.subi (BitVec.ofNat 32 (count (amp (rot x0 (i 0) (i 1))))) 126#32) = _
  rw [Ideal.ofBits_zero_f32, hw ⟨count (amp (rot x0 (i 0) (i 1))), by have := count_le (amp (rot x0 (i 0) (i 1))); omega⟩]
  unfold code Scalar.select
  by_cases h : rms (rot x0 (i 0) (i 1)) = 0
  · simp [h]
  · simp [h]

/-- The scales: the exponent codes, as bytes. -/
theorem scale_ref (i : S5120x512.Idx) : val_main_v64 (F := Ideal) x0 i = (BitVec.ofNat 32 (code (rot x0 (i 0) (i 1)))).setWidth 8 := by
  rw [val_main_v64_apply, val_main_v63_apply, code_ref, val_main_v62_apply]
  show (BitVec.ofNat 32 (code (rot x0 (i 0) (i 1))) - 127#32 + 127#32).setWidth 8 = _
  rw [BitVec.sub_add_cancel]

theorem scaled_ref (i : S5120x512x32.Idx) : val_main_v50 (F := Ideal) x0 i = scaled (rot x0 (i 0) (i 1)) (i 2) := by
  have hw : ∀ m : Fin 254, (-(BitVec.ofNat 32 m.val - 127#32)).toInt = 127 - (m.val : ℤ) := by decide +kernel
  rw [val_main_v50_apply, val_main_v43_apply, val_main_v42_apply, val_main_v49_apply, val_main_v48_apply, val_main_v47_apply,
    val_main_v46_apply, val_main_v45_apply, val_main_v44_apply, code_ref, rot_eq]
  have hc := code_le (rot x0 (i 0) (i 1))
  have hp : Ideal.pow (Ideal.ofBits .f32 0x40000000#32)
      (((-(BitVec.ofNat 32 (code (rot x0 (i 0) (i 1))) - 127#32)).toInt : ℝ) : EReal) = pw (127 - (code (rot x0 (i 0) (i 1)) : ℤ)) := by
    rw [hw ⟨code (rot x0 (i 0) (i 1)), by omega⟩, pow_two]
  unfold scaled
  rw [← hp]
  rfl

theorem inside_bit (s : Fin 32 → EReal) (n : Fin 32) :
    FloatOps.cmpf (F := Ideal) (φ := .f32) .ole (FloatOps.hostAbsf (F := Ideal) (φ := .f32) (scaled s n)) (Ideal.ofBits .f32 0x40C00000#32)
      = BitVec.ofBool (decide (inside s n)) := by
  refine congrArg BitVec.ofBool ?_
  exact decide_eq_decide.2 Iff.rfl

/-- The bit of a place, shifted to its position in its byte. -/
theorem place_ref (i : S5120x2048x8.Idx) : val_main_v59 (F := Ideal) x0 i
    = IntOp.shli .host ((BitVec.ofBool (decide (inside (rot x0 (i 0) ⟨(i 1).val / 4, by have h : (i 1).val < 2048 := (i 1).isLt; omega⟩)
        ⟨8 * ((i 1).val % 4) + (i 2).val, by have h : (i 2).val < 8 := (i 2).isLt; omega⟩))).setWidth 32) (BitVec.ofNat 32 (i 2).val) := by
  have h0 : (i 0).val < 5120 := (i 0).isLt
  have h1 : (i 1).val < 2048 := (i 1).isLt
  have hj : (i 2).val < 8 := (i 2).isLt
  have ei : idx_main_v54 i = (ix3 (i 0) ⟨(i 1).val / 4, by omega⟩ ⟨8 * ((i 1).val % 4) + (i 2).val, by omega⟩ : S5120x512x32.Idx) :=
    funext fun a => Fin.ext (by
      match a with
      | ⟨0, _⟩ => show (((i 0).val * 2048 + (i 1).val) * 8 + (i 2).val) / 16384 = (i 0).val; omega
      | ⟨1, _⟩ => show (((i 0).val * 2048 + (i 1).val) * 8 + (i 2).val) / 32 % 512 = (i 1).val / 4; omega
      | ⟨2, _⟩ => show (((i 0).val * 2048 + (i 1).val) * 8 + (i 2).val) % 32 = 8 * ((i 1).val % 4) + (i 2).val; omega)
  rw [val_main_v59_apply, val_main_v55_apply, val_main_v54_apply, ei, val_main_v58_apply, val_main_v57_apply,
    val_main_v56_apply, val_main_v53_apply, val_main_v51_apply, val_main_v52_apply, scaled_ref]
  exact congrArg (fun b => IntOp.shli .host (BitVec.setWidth 32 b) (BitVec.ofNat 32 (i 2).val)) (inside_bit _ _)

/-- The masks: byte `q` of a row's blocks holds the bits of its eight places. -/
theorem mask_ref (i : S5120x2048.Idx) : val_main_v61 (F := Ideal) x0 i
    = byte fun j => inside (rot x0 (i 0) ⟨(i 1).val / 4, by have h : (i 1).val < 2048 := (i 1).isLt; omega⟩) ⟨8 * ((i 1).val % 4) + j.val, by omega⟩ := by
  rw [val_main_v61_apply]
  unfold val_main_v60
  have hR : S5120x2048x8.Reduces [2] S5120x2048 := by decide
  rw [Host.reduce_eq_fold_single IntOp.addi _ _ reducesTo_S5120x2048x8_S5120x2048_d2 hR h_S_ i]
  refine byte_word _ _ fun j => ?_
  have e : (hR.lift i j) = ix3 (i 0) (i 1) j :=
    funext fun a => Fin.ext (by match a with | ⟨0, _⟩ => rfl | ⟨1, _⟩ => rfl | ⟨2, _⟩ => rfl)
  exact (congrArg (val_main_v59 (F := Ideal) x0) e).trans (place_ref x0 (ix3 (i 0) (i 1) j))

end Cert.WRef

end
-- ==== Proof.WValue.lean ====
/- THE VALUE of the quantiser's call for `w`: the arrays of mask bytes and scale bytes the kernel leaves are the reference's. -/
module

public import proofs.«01_k».proof.Proof.WDot
public import proofs.«01_k».proof.Proof.WRef
public import proofs.«01_k».proof.Proof.Gen.QuantWIdeal.Value

@[expose] public section

set_option maxRecDepth 16384

noncomputable section

namespace Cert.WValue

open Idealize.ShloMosaic Idealize.ShloMosaic.TcCoe Idealize.SL.Sem Cert.QuantWIdeal Cert.QuantWIdeal.Gen Cert.Tile Cert.WBlocks Cert.WDot Cert.Spec
open scoped Classical

variable (m : (ℓ : Loc nD τ sig) → Buf (Elt Ideal) ℓ) (c : Dev nD)

/-- The operand as the call finds it. -/
def wArr : FVec Ideal S5120x16384 .bf16 := m ((c : Thread nD τ).loc main_arg0)

/-- The rotation's block at a point: the whole matrix. -/
def rotAt (t : Fin cfg0.N) : FVec Ideal S256x256 .bf16 := iblk m c 0 t

/-- The operand's block at a point. -/
def wAt (t : Fin cfg0.N) : FVec Ideal S256x4096 .bf16 := iblk m c 1 t

theorem rot_index : ∀ t : Fin grid0.N, win0_0.index t = ![0, 0] := by decide +kernel
theorem w_index : ∀ t : Fin grid0.N, win0_1.index t = ![t.val / 4, t.val % 4] := by decide +kernel
theorem mask_index : ∀ t : Fin grid0.N, win0_4.index t = ![t.val / 4, t.val % 4] := by decide +kernel
theorem scale_index : ∀ t : Fin grid0.N, win0_5.index t = ![t.val / 4, t.val % 4] := by decide +kernel

theorem rotAt_apply (t : Fin cfg0.N) (a b : Fin 256) : rotAt m c t (ix2 a b) = Rotation.entry (F := Ideal) a.val b.val := by
  unfold rotAt
  refine Eq.trans (b := (V m c main_v28 : FVec Ideal S256x256 .bf16) (ix2 a b)) ?_ (WRot.rotation_at m c (ix2 a b))
  blk_ext [iblk, rot_index]

theorem wAt_apply (t : Fin cfg0.N) (a : Fin 256) (b : Fin 4096) :
    wAt m c t (ix2 a b) = wArr m c (ix2 ⟨256 * (t.val / 4) + a.val, by have h : t.val < 80 := t.isLt; omega⟩ ⟨4096 * (t.val % 4) + b.val, by omega⟩) := by
  unfold wAt wArr
  rw [← V_main_arg0 m c]
  blk_ext [iblk, w_index]

/-- The block of rotated values, in the whole operand. -/
theorem blockRot_eq (t : Fin cfg0.N) (r : Fin 256) (b : Fin 128) :
    blockRot (wAt m c t) r b = WRef.rot (wArr m c) ⟨256 * (t.val / 4) + r.val, by have h : t.val < 80 := t.isLt; omega⟩ ⟨128 * (t.val % 4) + b.val, by omega⟩ := by
  unfold blockRot WRef.rot
  refine congrArg Rotation.rotated (funext fun k => ?_)
  rw [wAt_apply]
  refine congrArg (wArr m c) (idx2_ext rfl ?_)
  show 4096 * (t.val % 4) + (32 * b.val + k.val) = 32 * (128 * (t.val % 4) + b.val) + k.val
  omega

/-- The scales a point writes back. -/
theorem scales_at (t : Fin cfg0.N) (y : S256x128.Idx) :
    (outsAt0 m c t).2.2.2 y = (BitVec.ofNat 32 (code (blockRot (wAt m c t) (y 0) (y 1)))).setWidth 8 := by
  unfold outsAt0
  dsimp only
  rw [out_scales]
  exact scale_apply _ _ _ _ (rotAt m c t) (wAt m c t) (rotAt_apply m c t) y

/-- The masks a point writes back. -/
theorem masks_at (t : Fin cfg0.N) (y : S256x512.Idx) :
    (outsAt0 m c t).2.2.1 y = byte fun j => inside (blockRot (wAt m c t) (y 0) ⟨(y 1).val / 4, by have h : (y 1).val < 512 := (y 1).isLt; omega⟩) ⟨8 * ((y 1).val % 4) + j.val, by omega⟩ := by
  unfold outsAt0
  dsimp only
  rw [out_masks]
  exact byte_apply _ _ _ _ (rotAt m c t) (wAt m c t) (rotAt_apply m c t) y

/-- They are the reference's. -/
theorem scales_ref (t : Fin cfg0.N) (y : S256x128.Idx) :
    (outsAt0 m c t).2.2.2 y = Cert.QuantisedWIdeal.Read.val_main_v64 (F := Ideal) (wArr m c)
      (ix2 ⟨256 * (t.val / 4) + (y 0).val, by have h : t.val < 80 := t.isLt; have h0 : (y 0).val < 256 := (y 0).isLt; omega⟩
        ⟨128 * (t.val % 4) + (y 1).val, by have h1 : (y 1).val < 128 := (y 1).isLt; omega⟩) := by
  rw [scales_at]
  refine (congrArg (fun s => (BitVec.ofNat 32 (code s)).setWidth 8) (blockRot_eq m c t (y 0) (y 1))).trans ?_
  exact (WRef.scale_ref (wArr m c) (ix2 _ _)).symm

theorem masks_ref (t : Fin cfg0.N) (y : S256x512.Idx) :
    (outsAt0 m c t).2.2.1 y = Cert.QuantisedWIdeal.Read.val_main_v61 (F := Ideal) (wArr m c)
      (ix2 ⟨256 * (t.val / 4) + (y 0).val, by have h : t.val < 80 := t.isLt; have h0 : (y 0).val < 256 := (y 0).isLt; omega⟩
        ⟨512 * (t.val % 4) + (y 1).val, by have h1 : (y 1).val < 512 := (y 1).isLt; omega⟩) := by
  rw [masks_at, WRef.mask_ref (wArr m c) (ix2 _ _)]
  refine congrArg byte (funext fun j => ?_)
  have h1 : (y 1).val < 512 := (y 1).isLt
  refine (congrArg (fun s => inside s _) (blockRot_eq m c t (y 0) ⟨(y 1).val / 4, by omega⟩)).trans ?_
  refine congrArg₂ (fun b q => inside (WRef.rot (wArr m c) _ b) q) (Fin.ext ?_) (Fin.ext ?_)
  · show 128 * (t.val % 4) + (y 1).val / 4 = (512 * (t.val % 4) + (y 1).val) / 4
    omega
  · show 8 * ((y 1).val % 4) + j.val = 8 * ((512 * (t.val % 4) + (y 1).val) % 4) + j.val
    omega

/-- The scales the kernel leaves. -/
theorem scales_eq : (dats m 0 c).arrAt 5 cfg0.N = Cert.QuantisedWIdeal.Read.val_main_v64 (F := Ideal) (wArr m c) := by
  refine (dats m 0 c).arrAt_eq_of_covers 5 _ (by decide +kernel) fun t hf y => ?_
  blk_simp
  rw [after0_5]
  refine (scales_ref m c t y).trans ?_
  generalize Cert.QuantisedWIdeal.Read.val_main_v64 (F := Ideal) (wArr m c) = A
  blk_ext [scale_index]

/-- The masks the kernel leaves. -/
theorem masks_eq : (dats m 0 c).arrAt 4 cfg0.N = Cert.QuantisedWIdeal.Read.val_main_v61 (F := Ideal) (wArr m c) := by
  refine (dats m 0 c).arrAt_eq_of_covers 4 _ (by decide +kernel) fun t hf y => ?_
  blk_simp
  rw [after0_4]
  refine (masks_ref m c t y).trans ?_
  generalize Cert.QuantisedWIdeal.Read.val_main_v61 (F := Ideal) (wArr m c) = A
  blk_ext [mask_index]

end Cert.WValue

end
-- ==== Proof.WCodePieces.lean ====
/- What one trip of the loop of the quantiser's body for `w` stores of the codes: of each of its four rotated tiles and each
   group of 128 rows, the bytes of `CodeTile`. -/
module
public import proofs.«01_k».proof.Proof.WPieces
public import proofs.«01_k».proof.Proof.CodeTile
@[expose] public section
noncomputable section
namespace Cert.WCodePieces
open Idealize.ShloMosaic Cert.QuantWIdeal Cert.QuantWIdeal.Gen Cert.Tile Cert.WPieces
variable {F : FTy → Type} [FloatOps F]

variable (arg2 : Memref sig .tc .vmem S256x256 .bf16) (arg3 : Memref sig .tc .vmem S256x4096 .bf16) (X_arg2 : BufTy.Contents (Elt F) arg2.view.ty) (X_arg3 : BufTy.Contents (Elt F) arg3.view.ty) (k : Fin k0_t1_loop.trips)

/-- The eight blocks of codes a trip stores, of what it computes of tile `t` and group `g`. -/
def codePieces (f : Fin 4 → Fin 2 → IVec W128 8) : List (View.Piece (Elt F) S256x2048 .i8) :=
  [⟨Rect.unit (s := S256x2048) (k0_off7 k 384#32) S128x128.size (k0_off7_inb k 3), f 3 1⟩,
   ⟨Rect.unit (s := S256x2048) (k0_off7 k 256#32) S128x128.size (k0_off7_inb k 2), f 2 1⟩,
   ⟨Rect.unit (s := S256x2048) (k0_off7 k 128#32) S128x128.size (k0_off7_inb k 1), f 1 1⟩,
   ⟨Rect.unit (s := S256x2048) (k0_off7 k 0#32) S128x128.size (k0_off7_inb k 0), f 0 1⟩,
   ⟨Rect.unit (s := S256x2048) (k0_off6 k 384#32) S128x128.size (k0_off6_inb k 3), f 3 0⟩,
   ⟨Rect.unit (s := S256x2048) (k0_off6 k 256#32) S128x128.size (k0_off6_inb k 2), f 2 0⟩,
   ⟨Rect.unit (s := S256x2048) (k0_off6 k 128#32) S128x128.size (k0_off6_inb k 1), f 1 0⟩,
   ⟨Rect.unit (s := S256x2048) (k0_off6 k 0#32) S128x128.size (k0_off6_inb k 0), f 0 0⟩]

variable (𝒱 : Variants) (c : Dev nD) (bd : Option 𝒱.V) (i : grid0.Coords) (harg2 : arg2.IsWhole) (harg3 : arg3.IsWhole) (arg4 : Memref sig .tc .vmem S4096x256 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)

theorem nibbles_trip (v0) : (trip_k0_t1 (F := F) 𝒱 c bd i arg2 harg2 arg3 harg3 arg4 harg4 arg5 harg5 arg6 harg6 arg7 harg7 arg8 harg8 arg9 harg9 v0 X_arg2 X_arg3 k).2.1
    = codePieces k fun t g => packedV (BitVec.ofNat 32 (32 * t.val)) v0 (fourV fun t => nibblesV (dot arg2 arg3 X_arg2 X_arg3 k t) g) := by
  unfold trip_k0_t1
  sl_kernel_rfl
end Cert.WCodePieces
end
-- ==== Proof.WCodeBlocks.lean ====
/- What a point of the quantiser's grid for `w` writes of the codes, at an index: the byte of the trip, tile and group the
   index lies in. -/
module

public import proofs.«01_k».proof.Proof.WBlocks
public import proofs.«01_k».proof.Proof.WCodePieces

@[expose] public section

set_option maxRecDepth 16384

noncomputable section

namespace Cert.WCodeBlocks

open Idealize.ShloMosaic Cert.QuantWIdeal Cert.QuantWIdeal.Gen Cert.Tile Cert.WPieces Cert.WScratch Cert.WCodePieces

variable {F : FTy → Type} [FloatOps F]

/-- The array of what trip `k` stores of tile `t` and group `g`. -/
def laid (f : Fin k0_t1_loop.trips → Fin 4 → Fin 2 → IVec W128 8) (y : S256x2048.Idx) : BitVec 8 :=
  f ⟨(y 1).val / 512, by have h : (y 1).val < 2048 := (y 1).isLt; rw [trips_eq]; omega⟩ ⟨(y 1).val / 128 % 4, Nat.mod_lt _ (by decide)⟩
    ⟨(y 0).val / 128, by have h : (y 0).val < 256 := (y 0).isLt; omega⟩
    (ix2 ⟨(y 0).val % 128, Nat.mod_lt _ (by decide)⟩ ⟨(y 1).val % 128, Nat.mod_lt _ (by decide)⟩)

theorem piece_laid (f : Fin k0_t1_loop.trips → Fin 4 → Fin 2 → IVec W128 8) (k : Fin k0_t1_loop.trips) (t : Fin 4) (g : Fin 2)
    (off : Fin 2 → ℕ) (inb : ∀ a, off a + S128x128.size a ≤ S256x2048.size a) (h : off = ![128 * g.val, 512 * k.val + 128 * t.val]) (x : S128x128.Idx) :
    f k t g x = laid f ((Rect.unit (s := S256x2048) off S128x128.size inb).emb x) := by
  subst h
  have h0 : (x 0).val < 128 := (x 0).isLt
  have h1 : (x 1).val < 128 := (x 1).isLt
  have hk : k.val < 4 := trips_eq ▸ k.isLt
  have ht := t.isLt
  have hg := g.isLt
  have e := ValueKit.rect_emb_unit_val (s := S256x2048) ![128 * g.val, 512 * k.val + 128 * t.val] S128x128.size inb x
  generalize (Rect.unit (s := S256x2048) ![128 * g.val, 512 * k.val + 128 * t.val] S128x128.size inb).emb x = y at e ⊢
  have e0 : (y 0).val = 128 * g.val + (x 0).val := e 0
  have e1 : (y 1).val = 512 * k.val + 128 * t.val + (x 1).val := e 1
  unfold laid
  have hk' : (⟨(y 1).val / 512, by have h : (y 1).val < 2048 := (y 1).isLt; rw [trips_eq]; omega⟩ : Fin k0_t1_loop.trips) = k :=
    Fin.ext (by show (y 1).val / 512 = _; omega)
  have ht' : (⟨(y 1).val / 128 % 4, Nat.mod_lt _ (by decide)⟩ : Fin 4) = t := Fin.ext (by show (y 1).val / 128 % 4 = _; omega)
  have hg' : (⟨(y 0).val / 128, by have h : (y 0).val < 256 := (y 0).isLt; omega⟩ : Fin 2) = g := Fin.ext (by show (y 0).val / 128 = _; omega)
  rw [hk', ht', hg']
  exact congrArg (f k t g) (idx2_ext (by show (x 0).val = (y 0).val % 128; omega) (by show (x 1).val = (y 1).val % 128; omega))

theorem codePieces_laid (f : Fin k0_t1_loop.trips → Fin 4 → Fin 2 → IVec W128 8) (k : Fin k0_t1_loop.trips) :
    ∀ p ∈ codePieces (F := F) k (f k), ∀ x : p.1.shape.Idx, p.2 x = laid f (p.1.emb x) := by
  intro p hp
  unfold codePieces at hp
  simp only [List.mem_cons, List.not_mem_nil, or_false] at hp
  rcases hp with rfl | rfl | rfl | rfl | rfl | rfl | rfl | rfl
  · exact piece_laid f k 3 1 _ (k0_off7_inb k 3) (k0_off7_eq k 3)
  · exact piece_laid f k 2 1 _ (k0_off7_inb k 2) (k0_off7_eq k 2)
  · exact piece_laid f k 1 1 _ (k0_off7_inb k 1) (k0_off7_eq k 1)
  · exact piece_laid f k 0 1 _ (k0_off7_inb k 0) (k0_off7_eq k 0)
  · exact piece_laid f k 3 0 _ (k0_off6_inb k 3) (k0_off6_eq k 3)
  · exact piece_laid f k 2 0 _ (k0_off6_inb k 2) (k0_off6_eq k 2)
  · exact piece_laid f k 1 0 _ (k0_off6_inb k 1) (k0_off6_eq k 1)
  · exact piece_laid f k 0 0 _ (k0_off6_inb k 0) (k0_off6_eq k 0)

/-- All the pieces, the last trip's first. -/
def allCodePieces (f : Fin k0_t1_loop.trips → Fin 4 → Fin 2 → IVec W128 8) : List (View.Piece (Elt F) S256x2048 .i8) :=
  codePieces (trip 3) (f (trip 3)) ++ (codePieces (trip 2) (f (trip 2)) ++ (codePieces (trip 1) (f (trip 1)) ++ (codePieces (trip 0) (f (trip 0)) ++ [])))

theorem allCodePieces_laid (f : Fin k0_t1_loop.trips → Fin 4 → Fin 2 → IVec W128 8) :
    ∀ p ∈ allCodePieces (F := F) f, ∀ x : p.1.shape.Idx, p.2 x = laid f (p.1.emb x) := by
  intro p hp
  unfold allCodePieces at hp
  simp only [List.mem_append, List.not_mem_nil, or_false] at hp
  rcases hp with h | h | h | h
  · exact codePieces_laid f _ p h
  · exact codePieces_laid f _ p h
  · exact codePieces_laid f _ p h
  · exact codePieces_laid f _ p h

variable (arg2 : Memref sig .tc .vmem S256x256 .bf16) (arg3 : Memref sig .tc .vmem S256x4096 .bf16) (X_arg2 : BufTy.Contents (Elt F) arg2.view.ty) (X_arg3 : BufTy.Contents (Elt F) arg3.view.ty)
variable (𝒱 : Variants) (c : Dev nD) (bd : Option 𝒱.V) (i : grid0.Coords) (harg2 : arg2.IsWhole) (harg3 : arg3.IsWhole) (arg4 : Memref sig .tc .vmem S4096x256 .bf16) (harg4 : arg4.IsWhole) (arg5 : Memref sig .tc .vmem S256x2048 .i8) (harg5 : arg5.IsWhole) (arg6 : Memref sig .tc .vmem S256x512 .i8) (harg6 : arg6.IsWhole) (arg7 : Memref sig .tc .vmem S256x128 .i8) (harg7 : arg7.IsWhole) (arg8 : Memref sig .tc .vmem S2x128x128 .i32) (harg8 : arg8.IsWhole) (arg9 : Memref sig .tc .vmem S2x128x128 .i32) (harg9 : arg9.IsWhole)

theorem nibbles_pieces (v0) : (pb_k0_t1 (F := F) 𝒱 c bd i arg2 harg2 arg3 harg3 arg4 harg4 arg5 harg5 arg6 harg6 arg7 harg7 arg8 harg8 arg9 harg9 v0 X_arg2 X_arg3 4).2.1
    = allCodePieces (F := F) fun k t g => packedV (BitVec.ofNat 32 (32 * t.val)) v0 (fourV fun t => nibblesV (dot arg2 arg3 X_arg2 X_arg3 k t) g) := by
  have h := fun k => congrArg (fun p => p.2.1) (pb_k0_t1_succ (F := F) 𝒱 c bd i arg2 harg2 arg3 harg3 arg4 harg4 arg5 harg5 arg6 harg6 arg7 harg7 arg8 harg8 arg9 harg9 v0 X_arg2 X_arg3 k)
  dsimp only at h
  simp only [nibbles_trip] at h
  have h3 := h (trip 3); have h2 := h (trip 2); have h1 := h (trip 1); have h0 := h (trip 0)
  refine h3.trans ?_
  unfold allCodePieces
  refine congrArg _ (h2.trans (congrArg _ (h1.trans (congrArg _ (h0.trans (congrArg _ ?_))))))
  rfl

variable (x0 : Vec F S256x256 .bf16) (x1 : Vec F S256x4096 .bf16)

/-- The lane a lane is. -/
def lanes : IVec W128 32 := iota .tc S128x128 32 [1] iota_S128x128_d1_w32

theorem lanes_apply (j : W128.Idx) : lanes j = BitVec.ofNat 32 (j 1).val := by
  unfold lanes
  pointwise

/-- The bytes of codes a point's trips store. -/
def bytes : S256x2048.Idx → BitVec 8 := laid fun k t g => packedV (BitVec.ofNat 32 (32 * t.val)) lanes
  (fourV fun t => nibblesV (dot (F := F) arg2 arg3 (harg2.unread x0) (harg3.unread x1) k t) g)

theorem out_codes (y : S256x2048.Idx) :
    out0_A_3 (F := F) c i arg2 harg2 arg3 harg3 arg4 harg4 arg5 harg5 arg6 harg6 arg7 harg7 arg8 harg8 arg9 harg9 x0 x1 y
      = bytes arg2 arg3 harg2 harg3 x0 x1 y := by
  unfold out0_A_3
  rw [View.read_writes_apply_eq_canon _ _ _ _ (cover0_A_3 c i arg2 harg2 arg3 harg3 arg4 harg4 arg5 harg5 arg6 harg6 arg7 harg7 arg8 harg8 arg9 harg9 x0 x1 y)]
  refine View.canon_apply_of_pieces (Val := Elt F) (bytes arg2 arg3 harg2 harg3 x0 x1) _ ?_ y
    (cover0_A_3 c i arg2 harg2 arg3 harg3 arg4 harg4 arg5 harg5 arg6 harg6 arg7 harg7 arg8 harg8 arg9 harg9 x0 x1 y)
  unfold kernelRun0_A
  dsimp only [kernelRun0_A.sl.v0]
  rw [WBlocks.trips4, nibbles_pieces]
  exact allCodePieces_laid _

end Cert.WCodeBlocks

end
-- ==== Proof.WCodeRef.lean ====
/- The reference's codes of `w`, at an element: the specification's, of the rotated group the element stands for. -/
module

public import proofs.«01_k».proof.Proof.WRef
public import proofs.«01_k».proof.Proof.CodeSpec

@[expose] public section

set_option maxRecDepth 16384

noncomputable section

namespace Cert.WCodeRef

open Cert.QuantisedWIdeal Cert.QuantisedWIdeal.Gen Cert.QuantisedWIdeal.Read Idealize.ShloMosaic Cert.Spec Cert.WRef
open scoped Classical

variable (x0 : (⟨S5120x16384, .bf16⟩ : BufTy).Contents (Elt Ideal))

/-- The clipped value of an element. -/
def val (i : S5120x512x32.Idx) : EReal := clipped (scaled (rot x0 (i 0) (i 1)) (i 2))

theorem clip_ref (i : S5120x512x32.Idx) : val_main_v65 (F := Ideal) x0 i = val x0 i := by
  rw [val_main_v65_apply, val_main_call2_v4_apply, val_main_call2_v3_apply, val_main_call2_v2_apply, val_main_call2_v1_apply,
    val_main_call2_v0_apply, scaled_ref]
  rfl

theorem abs_ref (i : S5120x512x32.Idx) : val_main_v66 (F := Ideal) x0 i = max (val x0 i) (-val x0 i) := by
  rw [val_main_v66_apply, clip_ref]
  rfl

/-- The index of its magnitude. -/
theorem index_ref (i : S5120x512x32.Idx) : val_main_v81 (F := Ideal) x0 i = BitVec.ofNat 32 (level (max (val x0 i) (-val x0 i))) := by
  rw [val_main_v81_apply, val_main_v80_apply, val_main_v68_apply, val_main_v70_apply, val_main_v79_apply, val_main_v72_apply,
    val_main_v74_apply, val_main_v78_apply, val_main_v76_apply, abs_ref, val_main_v67_apply, val_main_v69_apply, val_main_v71_apply,
    val_main_v73_apply, val_main_v75_apply, val_main_v77_apply]
  refine Eq.trans ?_ (index_word (scaled (rot x0 (i 0) (i 1)) (i 2)))
  rfl

/-- Its code. -/
theorem nibble_ref (i : S5120x512x32.Idx) : val_main_v87 (F := Ideal) x0 i = BitVec.ofNat 32 (nibble (val x0 i)) := by
  rw [val_main_v87_apply, index_ref, val_main_v86_apply, val_main_v84_apply, val_main_v83_apply, clip_ref, val_main_v82_apply,
    val_main_v85_apply]
  refine Eq.trans ?_ (nibble_word (val x0 i))
  rfl

/-- The code of one of the two places of a byte. -/
theorem half_ref (i : S5120x8192x2.Idx) : val_main_v88 (F := Ideal) x0 i
    = BitVec.ofNat 32 (nibble (clipped (scaled (rot x0 (i 0) ⟨(i 1).val / 16, by have h : (i 1).val < 8192 := (i 1).isLt; omega⟩)
        ⟨2 * ((i 1).val % 16) + (i 2).val, by have h : (i 2).val < 2 := (i 2).isLt; omega⟩))) := by
  have h0 : (i 0).val < 5120 := (i 0).isLt
  have h1 : (i 1).val < 8192 := (i 1).isLt
  have h2 : (i 2).val < 2 := (i 2).isLt
  have ei : idx_main_v88 i = (ix3 (i 0) ⟨(i 1).val / 16, by omega⟩ ⟨2 * ((i 1).val % 16) + (i 2).val, by omega⟩ : S5120x512x32.Idx) :=
    funext fun a => Fin.ext (by
      match a with
      | ⟨0, _⟩ => show (((i 0).val * 8192 + (i 1).val) * 2 + (i 2).val) / 16384 = (i 0).val; omega
      | ⟨1, _⟩ => show (((i 0).val * 8192 + (i 1).val) * 2 + (i 2).val) / 32 % 512 = (i 1).val / 16; omega
      | ⟨2, _⟩ => show (((i 0).val * 8192 + (i 1).val) * 2 + (i 2).val) % 32 = 2 * ((i 1).val % 16) + (i 2).val; omega)
  rw [val_main_v88_apply, ei, nibble_ref]
  rfl

/-- The codes: byte `q` of a row holds those of its two places. -/
theorem codes_ref (i : S5120x8192.Idx) : val_main_v96 (F := Ideal) x0 i
    = codesAt (rot x0 (i 0) ⟨(i 1).val / 16, by have h : (i 1).val < 8192 := (i 1).isLt; omega⟩) ⟨(i 1).val % 16, Nat.mod_lt _ (by decide)⟩ := by
  have h0 : (i 0).val < 5120 := (i 0).isLt
  have h1 : (i 1).val < 8192 := (i 1).isLt
  have e0 : idx_main_v89 (idx_main_v90 i) = (ix3 (i 0) (i 1) 0 : S5120x8192x2.Idx) :=
    funext fun a => Fin.ext (by
      match a with
      | ⟨0, _⟩ => show ((i 0).val * 8192 + (i 1).val) / 8192 = (i 0).val; omega
      | ⟨1, _⟩ => show ((i 0).val * 8192 + (i 1).val) / 1 % 8192 = (i 1).val; omega
      | ⟨2, _⟩ => rfl)
  have e1 : idx_main_v91 (idx_main_v92 i) = (ix3 (i 0) (i 1) 1 : S5120x8192x2.Idx) :=
    funext fun a => Fin.ext (by
      match a with
      | ⟨0, _⟩ => show ((i 0).val * 8192 + (i 1).val) / 8192 = (i 0).val; omega
      | ⟨1, _⟩ => show ((i 0).val * 8192 + (i 1).val) / 1 % 8192 = (i 1).val; omega
      | ⟨2, _⟩ => rfl)
  rw [val_main_v96_apply, val_main_v95_apply, val_main_v90_apply, val_main_v89_apply, e0, half_ref, val_main_v94_apply,
    val_main_v92_apply, val_main_v91_apply, e1, half_ref, val_main_v93_apply]
  exact pair_word _ _

end Cert.WCodeRef

end
-- ==== Proof.WCodeValue.lean ====
/- THE VALUE of the quantiser's call for `w`, of the codes: the array of bytes the kernel leaves is the reference's. -/
module

public import proofs.«01_k».proof.Proof.WValue
public import proofs.«01_k».proof.Proof.WCodeBlocks
public import proofs.«01_k».proof.Proof.WCodeRef
public import proofs.«01_k».proof.Proof.CodeRead

@[expose] public section

set_option maxRecDepth 16384

noncomputable section

namespace Cert.WCodeValue

open Idealize.ShloMosaic Idealize.ShloMosaic.TcCoe Idealize.SL.Sem Cert.QuantWIdeal Cert.QuantWIdeal.Gen Cert.Tile Cert.WPieces Cert.WScratch
  Cert.WCodeBlocks Cert.WDot Cert.WValue Cert.Spec
open scoped Classical

section Body

variable (arg2 : Memref sig .tc .vmem S256x256 .bf16) (harg2 : arg2.IsWhole) (arg3 : Memref sig .tc .vmem S256x4096 .bf16) (harg3 : arg3.IsWhole)
  (x0 : Vec Ideal S256x256 .bf16) (x1 : Vec Ideal S256x4096 .bf16)
  (hx0 : ∀ a b : Fin 256, x0 (ix2 a b) = Rotation.entry (F := Ideal) a.val b.val)
include hx0

/-- The clipped value at a place of the block a scratch index stands for. -/
theorem place_value (y : S2x128x128.Idx) (k : Fin k0_t1_loop.trips) (t : Fin 4) (b : Fin 8) (hk : k.val = (y 1).val / 32)
    (ht : t.val = (y 1).val / 8 % 4) (hb : b.val = (y 1).val % 8) (n : Fin 32) :
    placesV (dot (F := Ideal) arg2 arg3 (harg2.unread x0) (harg3.unread x1) k t) (y 0) n.val (ix2 b (y 2))
      = clipped (scaled (blockRot x1 (rowOf y) (y 1)) n) := by
  obtain ⟨k, hk'⟩ := k
  obtain ⟨t, ht'⟩ := t
  obtain ⟨b, hb'⟩ := b
  dsimp only at hk ht hb
  subst hk ht hb
  unfold placesV
  exact CodeRead.value_eq (s := blockRot x1 (rowOf y) (y 1)) (fun n => pos_eq arg2 harg2 arg3 harg3 x0 x1 hx0 y n) n

/-- A stored byte of codes. -/
theorem codes_apply (y : S256x2048.Idx) :
    bytes (F := Ideal) arg2 arg3 harg2 harg3 x0 x1 y
      = codesAt (blockRot x1 (y 0) ⟨(y 1).val / 16, by have h : (y 1).val < 2048 := (y 1).isLt; omega⟩) ⟨(y 1).val % 16, Nat.mod_lt _ (by decide)⟩ := by
  have h0 : (y 0).val < 256 := (y 0).isLt
  have h1 : (y 1).val < 2048 := (y 1).isLt
  have hs := place_value arg2 harg2 arg3 harg3 x0 x1 hx0
    (ix3 ⟨(y 0).val / 128, by omega⟩ ⟨(y 1).val / 16, by omega⟩ ⟨(y 0).val % 128, Nat.mod_lt _ (by decide)⟩)
  have hr : rowOf (ix3 ⟨(y 0).val / 128, by omega⟩ ⟨(y 1).val / 16, by omega⟩ ⟨(y 0).val % 128, Nat.mod_lt _ (by decide)⟩ : S2x128x128.Idx) = y 0 :=
    Fin.ext (by show 128 * ((y 0).val / 128) + (y 0).val % 128 = (y 0).val; omega)
  have hl : (y 1).val % 128 % 16 = (y 1).val % 16 := by omega
  unfold bytes laid
  refine (CodeRead.packed_codes (fun t => dot (F := Ideal) arg2 arg3 (harg2.unread x0) (harg3.unread x1)
    ⟨(y 1).val / 512, by rw [trips_eq]; omega⟩ t) _ ⟨(y 1).val / 128 % 4, Nat.mod_lt _ (by decide)⟩ lanes lanes_apply _).trans ?_
  unfold codesAt
  refine congrArg₂ codePair ?_ ?_
  · refine (congrArg (fun n => placesV _ _ (2 * n) _) hl).trans ?_
    refine (hs _ _ _ (by show (y 1).val / 512 = (y 1).val / 16 / 32; omega) (by show (y 1).val / 128 % 4 = (y 1).val / 16 / 8 % 4; omega)
      (by show (y 1).val % 128 / 16 = (y 1).val / 16 % 8; omega) ⟨2 * ((y 1).val % 16), by omega⟩).trans ?_
    exact congrArg (fun r => clipped (scaled (blockRot x1 r _) _)) hr
  · refine (congrArg (fun n => placesV _ _ (2 * n + 1) _) hl).trans ?_
    refine (hs _ _ _ (by show (y 1).val / 512 = (y 1).val / 16 / 32; omega) (by show (y 1).val / 128 % 4 = (y 1).val / 16 / 8 % 4; omega)
      (by show (y 1).val % 128 / 16 = (y 1).val / 16 % 8; omega) ⟨2 * ((y 1).val % 16) + 1, by omega⟩).trans ?_
    exact congrArg (fun r => clipped (scaled (blockRot x1 r _) _)) hr

end Body

variable (m : (ℓ : Loc nD τ sig) → Buf (Elt Ideal) ℓ) (c : Dev nD)

theorem codes_index : ∀ t : Fin grid0.N, win0_3.index t = ![t.val / 4, t.val % 4] := by decide +kernel

/-- The codes a point writes back. -/
theorem codes_at (t : Fin cfg0.N) (y : S256x2048.Idx) :
    (outsAt0 m c t).2.1 y = codesAt (blockRot (wAt m c t) (y 0) ⟨(y 1).val / 16, by have h : (y 1).val < 2048 := (y 1).isLt; omega⟩)
      ⟨(y 1).val % 16, Nat.mod_lt _ (by decide)⟩ := by
  unfold outsAt0
  dsimp only
  rw [out_codes]
  exact codes_apply _ _ _ _ (rotAt m c t) (wAt m c t) (rotAt_apply m c t) y

/-- They are the reference's. -/
theorem codes_ref (t : Fin cfg0.N) (y : S256x2048.Idx) :
    (outsAt0 m c t).2.1 y = Cert.QuantisedWIdeal.Read.val_main_v96 (F := Ideal) (wArr m c)
      (ix2 ⟨256 * (t.val / 4) + (y 0).val, by have h : t.val < 80 := t.isLt; have h0 : (y 0).val < 256 := (y 0).isLt; omega⟩
        ⟨2048 * (t.val % 4) + (y 1).val, by have h1 : (y 1).val < 2048 := (y 1).isLt; omega⟩) := by
  rw [codes_at, WCodeRef.codes_ref (wArr m c) (ix2 _ _)]
  have h1 : (y 1).val < 2048 := (y 1).isLt
  refine (congrArg (fun s => codesAt s _) (blockRot_eq m c t (y 0) ⟨(y 1).val / 16, by omega⟩)).trans ?_
  refine congrArg₂ (fun b q => codesAt (WRef.rot (wArr m c) _ b) q) (Fin.ext ?_) (Fin.ext ?_)
  · show 128 * (t.val % 4) + (y 1).val / 16 = (2048 * (t.val % 4) + (y 1).val) / 16
    omega
  · show (y 1).val % 16 = (2048 * (t.val % 4) + (y 1).val) % 16
    omega

/-- The codes the kernel leaves. -/
theorem codes_eq : (dats m 0 c).arrAt 3 cfg0.N = Cert.QuantisedWIdeal.Read.val_main_v96 (F := Ideal) (wArr m c) := by
  refine (dats m 0 c).arrAt_eq_of_covers 3 _ (by decide +kernel) fun t hf y => ?_
  blk_simp
  rw [after0_3]
  refine (codes_ref m c t y).trans ?_
  generalize Cert.QuantisedWIdeal.Read.val_main_v96 (F := Ideal) (wArr m c) = A
  blk_ext [codes_index]

end Cert.WCodeValue

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.QuantX.Frame
public import proofs.«01_k».proof.Proof.Gen.QuantXIdeal.Value
public import proofs.«01_k».proof.Proof.Gen.QuantisedXIdeal.Run
public import proofs.«01_k».proof.Proof.Gen.QuantW.Frame
public import proofs.«01_k».proof.Proof.Gen.QuantWIdeal.Value
public import proofs.«01_k».proof.Proof.Gen.QuantisedWIdeal.Run
public import Idealize.ShloMosaic.Adequacy
public import Idealize.ShloMosaic.Init
public import Idealize.ShloMosaic.Lib.Quiescent
public import proofs.«01_k».proof.Proof.MatmulValue
public import proofs.«01_k».proof.Proof.XCodeValue
public import proofs.«01_k».proof.Proof.WCodeValue

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  rw [(hagree c).1, (hagree c).2]
  exact (Cert.MatmulValue.result_eq m _ c).symm

theorem quiescent_QuantisedXIdeal : quiescent_QuantisedXIdeal := fun m ρ _ =>
  (θ_run Cert.QuantisedXIdeal.defs _ _).mono (fun r h => ⟨fun c => (h c).2.2.2, sem_eq_zero_of_no_sems (by decide) r.2⟩)
    (Cert.QuantisedXIdeal.Value.run (F := Ideal) m ρ)

theorem algebraic_QuantXIdeal_QuantisedXIdeal : algebraic_QuantXIdeal_QuantisedXIdeal := by
  intro m ρ m' ρ' _ hagree
  refine ⟨fun c => Cert.QuantisedXIdeal.Read.val_main_v61 (F := Ideal) (Cert.XValue.xArr m c),
    fun c => Cert.QuantisedXIdeal.Read.val_main_v64 (F := Ideal) (Cert.XValue.xArr m c),
    fun c => Cert.QuantisedXIdeal.Read.val_main_v96 (F := Ideal) (Cert.XValue.xArr m c),
    (θ_run Cert.QuantXIdeal.defs _ _).mono
      (fun _ h c => ⟨(h c).2.2.1.trans (Cert.XValue.masks_eq m c), (h c).2.2.2.1.trans (Cert.XValue.scales_eq m c),
        (h c).2.1.trans (Cert.XCodeValue.codes_eq m c), (h c).2.2.2.2⟩)
      (Cert.QuantXIdeal.Value.run_blocks (F := Ideal) m ρ), ?_⟩
  refine (θ_run Cert.QuantisedXIdeal.defs _ _).mono (fun _ h c => ⟨?_, ?_, ?_, (h c).2.2.2⟩) (Cert.QuantisedXIdeal.Value.run (F := Ideal) m' ρ')
  · rw [(h c).1, Cert.QuantisedXIdeal.Read.val_main_v61_eq, hagree c]
    rfl
  · rw [(h c).2.1, Cert.QuantisedXIdeal.Read.val_main_v64_eq, hagree c]
    rfl
  · rw [(h c).2.2.1, Cert.QuantisedXIdeal.Read.val_main_v96_eq, hagree c]
    rfl

theorem quiescent_QuantisedWIdeal : quiescent_QuantisedWIdeal := fun m ρ _ =>
  (θ_run Cert.QuantisedWIdeal.defs _ _).mono (fun r h => ⟨fun c => (h c).2.2.2, sem_eq_zero_of_no_sems (by decide) r.2⟩)
    (Cert.QuantisedWIdeal.Value.run (F := Ideal) m ρ)

theorem algebraic_QuantWIdeal_QuantisedWIdeal : algebraic_QuantWIdeal_QuantisedWIdeal := by
  intro m ρ m' ρ' _ hagree
  refine ⟨fun c => Cert.QuantisedWIdeal.Read.val_main_v61 (F := Ideal) (Cert.WValue.wArr m c),
    fun c => Cert.QuantisedWIdeal.Read.val_main_v64 (F := Ideal) (Cert.WValue.wArr m c),
    fun c => Cert.QuantisedWIdeal.Read.val_main_v96 (F := Ideal) (Cert.WValue.wArr m c),
    (θ_run Cert.QuantWIdeal.defs _ _).mono
      (fun _ h c => ⟨(h c).2.2.1.trans (Cert.WValue.masks_eq m c), (h c).2.2.2.1.trans (Cert.WValue.scales_eq m c),
        (h c).2.1.trans (Cert.WCodeValue.codes_eq m c), (h c).2.2.2.2⟩)
      (Cert.QuantWIdeal.Value.run_blocks (F := Ideal) m ρ), ?_⟩
  refine (θ_run Cert.QuantisedWIdeal.defs _ _).mono (fun _ h c => ⟨?_, ?_, ?_, (h c).2.2.2⟩) (Cert.QuantisedWIdeal.Value.run (F := Ideal) m' ρ')
  · rw [(h c).1, Cert.QuantisedWIdeal.Read.val_main_v61_eq, hagree c]
    rfl
  · rw [(h c).2.1, Cert.QuantisedWIdeal.Read.val_main_v64_eq, hagree c]
    rfl
  · rw [(h c).2.2.1, Cert.QuantisedWIdeal.Read.val_main_v96_eq, hagree c]
    rfl

theorem claim : Cert.Claim := ⟨Cert.Kernel.Gen.facts, Cert.KernelIdeal.Gen.facts, Cert.ReferenceIdeal.Gen.facts,
  Cert.QuantX.Gen.facts, Cert.QuantXIdeal.Gen.facts, Cert.QuantisedXIdeal.Gen.facts,
  Cert.QuantW.Gen.facts, Cert.QuantWIdeal.Gen.facts, Cert.QuantisedWIdeal.Gen.facts,
  fun m ρ _ => Cert.Kernel.Gen.frame m ρ, fun m ρ _ => Cert.KernelIdeal.Gen.frame m ρ, quiescent_ReferenceIdeal,
  fun m ρ _ => Cert.QuantX.Gen.frame m ρ, fun m ρ _ => Cert.QuantXIdeal.Gen.frame m ρ, quiescent_QuantisedXIdeal,
  fun m ρ _ => Cert.QuantW.Gen.frame m ρ, fun m ρ _ => Cert.QuantWIdeal.Gen.frame m ρ, quiescent_QuantisedWIdeal,
  (trivial : preserves_Kernel_KernelIdeal), algebraic_KernelIdeal_ReferenceIdeal,
  (trivial : preserves_QuantX_QuantXIdeal), algebraic_QuantXIdeal_QuantisedXIdeal,
  (trivial : preserves_QuantW_QuantWIdeal), algebraic_QuantWIdeal_QuantisedWIdeal⟩

end Cert.Proof

end
